-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_temperatures [hPre_finite_temperatures : Cert.Pre_finite_temperatures.Facts] (m : (ℓ : Loc Cert.KernelIdeal.nD Cert.KernelIdeal.τ Cert.KernelIdeal.sig) → Buf (Elt Ideal) ℓ) : Prop :=
  ∀ c : Dev Cert.KernelIdeal.nD,
    (Cert.Pre_finite_temperatures.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_temperatures [hPre_finite_temperatures : Cert.Pre_finite_temperatures.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_temperatures.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_temperatures [hKernelIdeal : Cert.KernelIdeal.Facts] [hPre_finite_temperatures : Cert.Pre_finite_temperatures.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_temperatures m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_temperatures [hReferenceIdeal : Cert.ReferenceIdeal.Facts] [hPre_finite_temperatures : Cert.Pre_finite_temperatures.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_temperatures m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_temperatures [hKernelIdeal : Cert.KernelIdeal.Facts] [hReferenceIdeal : Cert.ReferenceIdeal.Facts] [hPre_finite_temperatures : Cert.Pre_finite_temperatures.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_temperatures m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_temperatures : Cert.Pre_finite_temperatures.Facts),
    quiescent_Kernel (hKernel := hKernel)
    ∧ quiescent_KernelIdeal (hKernelIdeal := hKernelIdeal)
    ∧ quiescent_KernelIdeal_pre_finite_temperatures (hKernelIdeal := hKernelIdeal) (hPre_finite_temperatures := hPre_finite_temperatures)
    ∧ quiescent_ReferenceIdeal (hReferenceIdeal := hReferenceIdeal)
    ∧ quiescent_ReferenceIdeal_pre_finite_temperatures (hReferenceIdeal := hReferenceIdeal) (hPre_finite_temperatures := hPre_finite_temperatures)
    ∧ preserves_Kernel_KernelIdeal
    ∧ algebraic_KernelIdeal_ReferenceIdeal_pre_finite_temperatures (hKernelIdeal := hKernelIdeal) (hReferenceIdeal := hReferenceIdeal) (hPre_finite_temperatures := hPre_finite_temperatures)
-- ==== Pre_finite_temperatures.lean ====
abbrev S2x2048x1024 : Shape := ⟨3, ![2, 2048, 1024]⟩
abbrev S2048 : Shape := ⟨1, ![2048]⟩
abbrev S3072x1024 : Shape := ⟨2, ![3072, 1024]⟩
abbrev S1024x1024 : Shape := ⟨2, ![1024, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S2x2048x1024 .f32) (main_arg1 : IVec S2048 32) (main_arg2 : FVec F S3072x1024 .f32) (main_arg3 : FVec F S1024x1024 .f32) (main_arg4 : FVec F S16 .f32) : IVec S_ 1 :=
  let main_v0 : FVec F S16 .f32 := Host.absf main_arg4
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  main_v3
-- ==== Kernel.lean ====
abbrev S2x2048x1024 : Shape := ⟨3, ![2, 2048, 1024]⟩
abbrev S2048 : Shape := ⟨1, ![2048]⟩
abbrev S3072x1024 : Shape := ⟨2, ![3072, 1024]⟩
abbrev S1024x1024 : Shape := ⟨2, ![1024, 1024]⟩
abbrev S16 : Shape := ⟨1, ![16]⟩
abbrev S16x32x2x1024 : Shape := ⟨4, ![16, 32, 2, 1024]⟩
abbrev S16x2x32x1024 : Shape := ⟨4, ![16, 2, 32, 1024]⟩
abbrev S128x1024 : Shape := ⟨2, ![128, 1024]⟩
abbrev S384x1024 : Shape := ⟨2, ![384, 1024]⟩
abbrev S1024x384 : Shape := ⟨2, ![1024, 384]⟩
abbrev S1x1024x384 : Shape := ⟨3, ![1, 1024, 384]⟩
abbrev S8x1024x384 : Shape := ⟨3, ![8, 1024, 384]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x64 : Shape := ⟨2, ![16, 64]⟩
abbrev S1024 : Shape := ⟨1, ![1024]⟩
abbrev S8x1x128 : Shape := ⟨3, ![8, 1, 128]⟩
abbrev S2x1024x2048 : Shape := ⟨3, ![2, 1024, 2048]⟩
abbrev S1x2048x1024 : Shape := ⟨3, ![1, 2048, 1024]⟩
abbrev S1x1x128 : Shape := ⟨3, ![1, 1, 128]⟩
abbrev S1x128x2048 : Shape := ⟨3, ![1, 128, 2048]⟩
abbrev S2048x384 : Shape := ⟨2, ![2048, 384]⟩
abbrev S2x72x2048 : Shape := ⟨3, ![2, 72, 2048]⟩
abbrev S2048x1024 : Shape := ⟨2, ![2048, 1024]⟩
abbrev S128x128 : Shape := ⟨2, ![128, 128]⟩
abbrev S1x128 : Shape := ⟨2, ![1, 128]⟩
abbrev S128x2048 : Shape := ⟨2, ![128, 2048]⟩
abbrev S64x2048 : Shape := ⟨2, ![64, 2048]⟩
abbrev S1x64x2048 : Shape := ⟨3, ![1, 64, 2048]⟩
abbrev S8x2048 : Shape := ⟨2, ![8, 2048]⟩
abbrev S1x8x2048 : Shape := ⟨3, ![1, 8, 2048]⟩
abbrev S512x512 : Shape := ⟨2, ![512, 512]⟩
abbrev S512x64 : Shape := ⟨2, ![512, 64]⟩
abbrev S1x72x512 : Shape := ⟨3, ![1, 72, 512]⟩
abbrev S72x512 : Shape := ⟨2, ![72, 512]⟩
abbrev S64x512 : Shape := ⟨2, ![64, 512]⟩
abbrev S1x512 : Shape := ⟨2, ![1, 512]⟩
abbrev S1x64x512 : Shape := ⟨3, ![1, 64, 512]⟩
abbrev S1024x64 : Shape := ⟨2, ![1024, 64]⟩
abbrev S1024x512 : Shape := ⟨2, ![1024, 512]⟩
abbrev S1x72x1024 : Shape := ⟨3, ![1, 72, 1024]⟩
abbrev S72x1024 : Shape := ⟨2, ![72, 1024]⟩
abbrev S1536x64 : Shape := ⟨2, ![1536, 64]⟩
abbrev S1536x512 : Shape := ⟨2, ![1536, 512]⟩
abbrev S1x72x1536 : Shape := ⟨3, ![1, 72, 1536]⟩
abbrev S72x1536 : Shape := ⟨2, ![72, 1536]⟩
abbrev S1x1024x1024 : Shape := ⟨3, ![1, 1024, 1024]⟩

abbrev nBuf : Space → Nat
  | .hbm => 97
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2048, .i32⟩
  | .hbm, ⟨2, _⟩ => ⟨S3072x1024, .f32⟩
  | .hbm, ⟨3, _⟩ => ⟨S1024x1024, .f32⟩
  | .hbm, ⟨4, _⟩ => ⟨S16, .f32⟩
  | .hbm, ⟨5, _⟩ => ⟨S1024x1024, .f32⟩
  | .hbm, ⟨6, _⟩ => ⟨S16x32x2x1024, .f32⟩
  | .hbm, ⟨7, _⟩ => ⟨S16x2x32x1024, .f32⟩
  | .hbm, ⟨8, _⟩ => ⟨S1024x1024, .f32⟩
  | .hbm, ⟨9, _⟩ => ⟨S1024x1024, .f32⟩
  | .hbm, ⟨10, _⟩ => ⟨S16x32x2x1024, .f32⟩
  | .hbm, ⟨11, _⟩ => ⟨S16x2x32x1024, .f32⟩
  | .hbm, ⟨12, _⟩ => ⟨S1024x1024, .f32⟩
  | .hbm, ⟨13, _⟩ => ⟨S1024x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S384x1024, .f32⟩
  | .hbm, ⟨18, _⟩ => ⟨S1024x384, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S384x1024, .f32⟩
  | .hbm, ⟨23, _⟩ => ⟨S1024x384, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S384x1024, .f32⟩
  | .hbm, ⟨28, _⟩ => ⟨S1024x384, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S384x1024, .f32⟩
  | .hbm, ⟨33, _⟩ => ⟨S1024x384, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S384x1024, .f32⟩
  | .hbm, ⟨38, _⟩ => ⟨S1024x384, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S384x1024, .f32⟩
  | .hbm, ⟨43, _⟩ => ⟨S1024x384, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S384x1024, .f32⟩
  | .hbm, ⟨48, _⟩ => ⟨S1024x384, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S384x1024, .f32⟩
  | .hbm, ⟨53, _⟩ => ⟨S1024x384, .f32⟩
  | .hbm, ⟨54, _⟩ => ⟨S1x1024x384, .f32⟩
  | .hbm, ⟨55, _⟩ => ⟨S1x1024x384, .f32⟩
  | .hbm, ⟨56, _⟩ => ⟨S1x1024x384, .f32⟩
  | .hbm, ⟨57, _⟩ => ⟨S1x1024x384, .f32⟩
  | .hbm, ⟨58, _⟩ => ⟨S1x1024x384, .f32⟩
  | .hbm, ⟨59, _⟩ => ⟨S1x1024x384, .f32⟩
  | .hbm, ⟨60, _⟩ => ⟨S1x1024x384, .f32⟩
  | .hbm, ⟨61, _⟩ => ⟨S1x1024x384, .f32⟩
  | .hbm, ⟨62, _⟩ => ⟨S8x1024x384, .f32⟩
  | .hbm, ⟨63, _⟩ => ⟨S2048, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S2048x1, .f32⟩
  | .hbm, ⟨76, _⟩ => ⟨S1x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x64, .f32⟩
  | .hbm, ⟨83, _⟩ => ⟨S1x2048x1x64, .f32⟩
  | .hbm, ⟨84, _⟩ => ⟨S1x2048x2x64, .f32⟩
  | .hbm, ⟨85, _⟩ => ⟨S2048x128, .f32⟩
  | .hbm, ⟨86, _⟩ => ⟨S2048x32, .f32⟩
  | .hbm, ⟨87, _⟩ => ⟨S2048x64, .f32⟩
  | .hbm, ⟨88, _⟩ => ⟨S1x2048x1x64, .f32⟩
  | .hbm, ⟨89, _⟩ => ⟨S1x2048x2x64, .f32⟩
  | .hbm, ⟨90, _⟩ => ⟨S2048x128, .f32⟩
  | .hbm, ⟨91, _⟩ => ⟨S16x64, .f32⟩
  | .hbm, ⟨92, _⟩ => ⟨S1024, .f32⟩
  | .hbm, ⟨93, _⟩ => ⟨S8x1x128, .f32⟩
  | .hbm, ⟨94, _⟩ => ⟨S2x1024x2048, .bf16⟩
  | .hbm, ⟨95, _⟩ => ⟨S1024x1024, .f32⟩
  | .hbm, ⟨96, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x384, .f32⟩
  | .local _ .vmem, ⟨3, _⟩ => ⟨S1x1024x384, .f32⟩
  | .local _ .vmem, ⟨4, _⟩ => ⟨S2048x128, .f32⟩
  | .local _ .vmem, ⟨5, _⟩ => ⟨S2048x128, .f32⟩
  | .local _ .vmem, ⟨6, _⟩ => ⟨S1x1x128, .f32⟩
  | .local _ .vmem, ⟨7, _⟩ => ⟨S1x1x128, .f32⟩
  | .local _ .vmem, ⟨8, _⟩ => ⟨S1x128x2048, .bf16⟩
  | .local _ .vmem, ⟨9, _⟩ => ⟨S1x128x2048, .bf16⟩
  | .local _ .vmem, ⟨10, _⟩ => ⟨S2048x384, .f32⟩
  | .local _ .vmem, ⟨11, _⟩ => ⟨S2048x128, .f32⟩
  | .local _ .vmem, ⟨12, _⟩ => ⟨S2048x128, .f32⟩
  | .local _ .vmem, ⟨13, _⟩ => ⟨S2x72x2048, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1024x1024, .f32⟩
  | .local _ .vmem, ⟨17, _⟩ => ⟨S1x1024x1024, .f32⟩
  | .local _ .vmem, ⟨18, _⟩ => ⟨S1x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_cst : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_cst_0 : Ref sig .tc := ⟨.hbm, 69, rfl⟩
abbrev main_v63 : Ref sig .tc := ⟨.hbm, 70, rfl⟩
abbrev main_v64 : Ref sig .tc := ⟨.hbm, 71, rfl⟩
abbrev main_cst_1 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x2048x1024 : Shape := ⟨3, ![2, 2048, 1024]⟩
abbrev S2048 : Shape := ⟨1, ![2048]⟩
abbrev S3072x1024 : Shape := ⟨2, ![3072, 1024]⟩
abbrev S1024x1024 : Shape := ⟨2, ![1024, 1024]⟩
abbrev S16 : Shape := ⟨1, ![16]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2x16x2048x32 : Shape := ⟨4, ![2, 16, 2048, 32]⟩
abbrev S1x1x2048x32 : Shape := ⟨4, ![1, 1, 2048, 32]⟩
abbrev S2x16x2048x32x1 : Shape := ⟨5, ![2, 16, 2048, 32, 1]⟩
abbrev S2x16x2048x32x2 : Shape := ⟨5, ![2, 16, 2048, 32, 2]⟩
abbrev S2x16x2048 : Shape := ⟨3, ![2, 16, 2048]⟩
abbrev S2x16x2048x1 : Shape := ⟨4, ![2, 16, 2048, 1]⟩
abbrev S1x16x1x1 : Shape := ⟨4, ![1, 16, 1, 1]⟩
abbrev S2x16x2048x2048 : Shape := ⟨4, ![2, 16, 2048, 2048]⟩
abbrev S2048x2048 : Shape := ⟨2, ![2048, 2048]⟩

abbrev nBuf : Space → Nat
  | .hbm => 157
  | .vmem => 0
  | .smem => 0
  | _ => 0

abbrev hbmTy0_0 (i : Nat) : BufTy := match i % 128 with
  | 0 => ⟨S2x2048x1024, .f32⟩
  | 1 => ⟨S2048, .i32⟩
  | 2 => ⟨S3072x1024, .f32⟩
  | 3 => ⟨S1024x1024, .f32⟩
  | 4 => ⟨S16, .f32⟩
  | 5 => ⟨S2x2048x3072, .f32⟩
  | 6 => ⟨S2x2048x1024, .f32⟩
  | 7 => ⟨S2x2048x1024, .f32⟩
  | 8 => ⟨S2x2048x1024, .f32⟩
  | 9 => ⟨S2x2048x16x64, .f32⟩
  | 10 => ⟨S2x16x2048x64, .f32⟩
  | 11 => ⟨S2x2048x16x64, .f32⟩
  | 12 => ⟨S2x16x2048x64, .f32⟩
  | 13 => ⟨S2x2048x16x64, .f32⟩
  | 14 => ⟨S2x16x2048x64, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S2048, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x32, .f32⟩
  | 36 => ⟨S2048x32, .f32⟩
  | 37 => ⟨S2x16x2048x32, .f32⟩
  | 38 => ⟨S2x16x2048x32, .f32⟩
  | 39 => ⟨S1x1x2048x32, .f32⟩
  | 40 => ⟨S2x16x2048x32, .f32⟩
  | 41 => ⟨S2x16x2048x32, .f32⟩
  | 42 => ⟨S1x1x2048x32, .f32⟩
  | 43 => ⟨S2x16x2048x32, .f32⟩
  | 44 => ⟨S2x16x2048x32, .f32⟩
  | 45 => ⟨S2x16x2048x32, .f32⟩
  | 46 => ⟨S1x1x2048x32, .f32⟩
  | 47 => ⟨S2x16x2048x32, .f32⟩
  | 48 => ⟨S2x16x2048x32, .f32⟩
  | 49 => ⟨S1x1x2048x32, .f32⟩
  | 50 => ⟨S2x16x2048x32, .f32⟩
  | 51 => ⟨S2x16x2048x32, .f32⟩
  | 52 => ⟨S2x16x2048x32, .f32⟩
  | 53 => ⟨S2x16x2048x32x1, .f32⟩
  | 54 => ⟨S2x16x2048x32x1, .f32⟩
  | 55 => ⟨S2x16x2048x32x2, .f32⟩
  | 56 => ⟨S2x16x2048x64, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .f32⟩
  | 72 => ⟨S2048x1, .f32⟩
  | 73 => ⟨S1x32, .f32⟩
  | 74 => ⟨S2048x32, .f32⟩
  | 75 => ⟨S2048x32, .f32⟩
  | 76 => ⟨S2048x32, .f32⟩
  | 77 => ⟨S2048x32, .f32⟩
  | 78 => ⟨S2048x32, .f32⟩
  | 79 => ⟨S2x16x2048x32, .f32⟩
  | 80 => ⟨S2x16x2048x32, .f32⟩
  | 81 => ⟨S1x1x2048x32, .f32⟩
  | 82 => ⟨S2x16x2048x32, .f32⟩
  | 83 => ⟨S2x16x2048x32, .f32⟩
  | 84 => ⟨S1x1x2048x32, .f32⟩
  | 85 => ⟨S2x16x2048x32, .f32⟩
  | 86 => ⟨S2x16x2048x32, .f32⟩
  | 87 => ⟨S2x16x2048x32, .f32⟩
  | 88 => ⟨S1x1x2048x32, .f32⟩
  | 89 => ⟨S2x16x2048x32, .f32⟩
  | 90 => ⟨S2x16x2048x32, .f32⟩
  | 91 => ⟨S1x1x2048x32, .f32⟩
  | 92 => ⟨S2x16x2048x32, .f32⟩
  | 93 => ⟨S2x16x2048x32, .f32⟩
  | 94 => ⟨S2x16x2048x32, .f32⟩
  | 95 => ⟨S2x16x2048x32x1, .f32⟩
  | 96 => ⟨S2x16x2048x32x1, .f32⟩
  | 97 => ⟨S2x16x2048x32x2, .f32⟩
  | 98 => ⟨S2x16x2048x64, .f32⟩
  | 99 => ⟨S2x16x2048x64, .f32⟩
  | 100 => ⟨S_, .f32⟩
  | 101 => ⟨S2x16x2048, .f32⟩
  | 102 => ⟨S2x16x2048x1, .f32⟩
  | 103 => ⟨S2x16x2048x1, .f32⟩
  | 104 => ⟨S_, .f32⟩
  | 105 => ⟨S2x16x2048x1, .f32⟩
  | 106 => ⟨S2x16x2048x1, .f32⟩
  | 107 => ⟨S2x16x2048x64, .f32⟩
  | 108 => ⟨S2x16x2048x64, .f32⟩
  | 109 => ⟨S2x16x2048x64, .f32⟩
  | 110 => ⟨S_, .f32⟩
  | 111 => ⟨S2x16x2048, .f32⟩
  | 112 => ⟨S2x16x2048x1, .f32⟩
  | 113 => ⟨S2x16x2048x1, .f32⟩
  | 114 => ⟨S_, .f32⟩
  | 115 => ⟨S2x16x2048x1, .f32⟩
  | 116 => ⟨S2x16x2048x1, .f32⟩
  | 117 => ⟨S2x16x2048x64, .f32⟩
  | 118 => ⟨S2x16x2048x64, .f32⟩
  | 119 => ⟨S1x16x1x1, .f32⟩
  | 120 => ⟨S2x16x2048x64, .f32⟩
  | 121 => ⟨S2x16x2048x64, .f32⟩
  | 122 => ⟨S2x16x2048x2048, .f32⟩
  | 123 => ⟨S_, .i1⟩
  | 124 => ⟨S2048x2048, .i1⟩
  | 125 => ⟨S2048x2048, .i32⟩
  | 126 => ⟨S_, .i32⟩
  | 127 => ⟨S2048x2048, .i32⟩
  | _ => ⟨S2x2048x1024, .f32⟩

abbrev hbmTy0_1 (i : Nat) : BufTy := match i % 128 with
  | 0 => ⟨S2048x2048, .i32⟩
  | 1 => ⟨S2048x2048, .i32⟩
  | 2 => ⟨S2048x2048, .i1⟩
  | 3 => ⟨S_, .i1⟩
  | 4 => ⟨S2048x2048, .i1⟩
  | 5 => ⟨S2048x2048, .i1⟩
  | 6 => ⟨S_, .f32⟩
  | 7 => ⟨S_, .f32⟩
  | 8 => ⟨S2x16x2048x2048, .i1⟩
  | 9 => ⟨S2x16x2048x2048, .f32⟩
  | 10 => ⟨S2x16x2048x2048, .f32⟩
  | 11 => ⟨S_, .f32⟩
  | 12 => ⟨S2x16x2048, .f32⟩
  | 13 => ⟨S_, .f32⟩
  | 14 => ⟨S2x16x2048, .f32⟩
  | 15 => ⟨S2x16x2048, .f32⟩
  | 16 => ⟨S2x16x2048x1, .f32⟩
  | 17 => ⟨S2x16x2048x2048, .f32⟩
  | 18 => ⟨S2x16x2048x2048, .f32⟩
  | 19 => ⟨S2x16x2048x2048, .f32⟩
  | 20 => ⟨S_, .f32⟩
  | 21 => ⟨S2x16x2048, .f32⟩
  | 22 => ⟨S2x16x2048x1, .f32⟩
  | 23 => ⟨S2x16x2048x2048, .f32⟩
  | 24 => ⟨S2x16x2048x2048, .f32⟩
  | 25 => ⟨S2x16x2048x64, .f32⟩
  | 26 => ⟨S2x2048x16x64, .f32⟩
  | 27 => ⟨S2x2048x1024, .f32⟩
  | 28 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_3 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_7 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_10 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_c : Ref sig .tc := ⟨.hbm, 123, rfl⟩
abbrev main_v106 : Ref sig .tc := ⟨.hbm, 124, rfl⟩
abbrev main_call0_v0 : Ref sig .tc := ⟨.hbm, 125, rfl⟩
abbrev main_call0_c : Ref sig .tc := ⟨.hbm, 126, rfl⟩
abbrev main_call0_v1 : Ref sig .tc := ⟨.hbm, 127, rfl⟩
abbrev main_call0_v2 : Ref sig .tc := ⟨.hbm, 128, rfl⟩
abbrev main_call0_v3 : Ref sig .tc := ⟨.hbm, 129, rfl⟩
abbrev main_call0_v4 : Ref sig .tc := ⟨.hbm, 130, rfl⟩
abbrev main_call0_c_0 : Ref sig .tc := ⟨.hbm, 131, rfl⟩
abbrev main_call0_v5 : Ref sig .tc := ⟨.hbm, 132, rfl⟩
abbrev main_v107 : Ref sig .tc := ⟨.hbm, 133, rfl⟩
abbrev main_cst_11 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v108 : Ref sig .tc := ⟨.hbm, 138, rfl⟩
abbrev main_cst_12 : Ref sig .tc := ⟨.hbm, 139, rfl⟩
abbrev main_v109 : Ref sig .tc := ⟨.hbm, 140, rfl⟩
abbrev main_cst_13 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_14 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩

abbrev nD : Nat := 1
abbrev τ : Topo := Topo.v7x

variable {F : FTy → Type} [FloatOps F]
-- ==== Proof.Attend.lean ====
/-
  The mathematics of one head, free of any program: rotating and normalising a row of queries or keys in two
  orders of its entries, the softmax of a causally masked row of finite scores against the same row exponentiated
  without a shift, and a long sum cut into a block and what precedes it. Everything is over the extended reals,
  with values (the third projection) allowed to be infinite.
-/
module

public import Idealize.ShloMosaic.PureOps.Ideal

@[expose] public section

noncomputable section

open scoped BigOperators

namespace Cert.Attend

open Idealize.ShloMosaic

/-! ## Sums of extended reals against a real factor -/

/-- A real factor comes out of a finite sum of extended reals, when it is not negative. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The embedding of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `base + 512 ≤ N` places that vanishes from `base + 512` on is the block's sum and the sum of what
    precedes the block. -/
theorem sum_split (N base B : ℕ) (hN : base + B ≤ N) (f : ℕ → EReal) (hf : ∀ k, base + B ≤ k → f k = 0) :
    ∑ k : Fin N, f k = (∑ a : Fin B, f (base + a)) + ∑ a : Fin base, f a := by
  obtain ⟨R, rfl⟩ : ∃ R, N = base + B + R := ⟨N - (base + B), by omega⟩
  rw [Fin.sum_univ_eq_sum_range f, Finset.sum_range_add, Finset.sum_range_add,
    Fin.sum_univ_eq_sum_range (fun a => f (base + a)), Fin.sum_univ_eq_sum_range f,
    Finset.sum_eq_zero (s := Finset.range R) fun k _ => hf _ (by omega), add_zero, add_comm]

/-! ## Rotation and normalisation of one row of 64 entries -/

/-- The interleaved rotation of a row `u` by the cosines `c` and sines `s` of its 32 planes. -/
def rot (c s : Fin 32 → EReal) (u : Fin 64 → EReal) (e : Fin 64) : EReal :=
  if e.val % 2 = 0 then
    c ⟨e.val / 2, by omega⟩ * u ⟨2 * (e.val / 2), by omega⟩ - s ⟨e.val / 2, by omega⟩ * u ⟨2 * (e.val / 2) + 1, by omega⟩
  else
    s ⟨e.val / 2, by omega⟩ * u ⟨2 * (e.val / 2), by omega⟩ + c ⟨e.val / 2, by omega⟩ * u ⟨2 * (e.val / 2) + 1, by omega⟩

/-- The small positive number added to a norm. -/
abbrev eps : EReal := Ideal.ofBits .f32 0x322BCC77#32

/-- The normalised entry `e` of a row `r`. -/
def hat (r : Fin 64 → EReal) (e : Fin 64) : EReal :=
  Ideal.div (r e) (Ideal.sqrt (∑ k, r k * r k) + eps)

/-- Where entry `f` of a row in half-split order stands in the interleaved order: the evens first, then the odds. -/
def unsplit : Fin 64 ≃ Fin 64 where
  toFun f := if f.val < 32 then ⟨2 * (f.val % 32), by omega⟩ else ⟨2 * (f.val % 32) + 1, by omega⟩
  invFun e := if e.val % 2 = 0 then ⟨e.val / 2, by omega⟩ else ⟨32 + e.val / 2, by omega⟩
  left_inv := by decide
  right_inv := by decide

/-- The half-split rotation: an entry times its cosine, plus its partner half a row away times its signed sine. -/
def rotSplit (c s : Fin 32 → EReal) (w : Fin 64 → EReal) (f : Fin 64) : EReal :=
  c ⟨f.val % 32, by omega⟩ * w f
    + (if f.val < 32 then -s ⟨f.val % 32, by omega⟩ else s ⟨f.val % 32, by omega⟩) * w ⟨(f.val + 32) % 64, by omega⟩

/-- Rotating in half-split order is rotating in interleaved order. -/
theorem rotSplit_eq (c s : Fin 32 → EReal) (u : Fin 64 → EReal) (f : Fin 64) :
    rotSplit c s (fun f => u (unsplit f)) f = rot c s u (unsplit f) := by
  obtain ⟨f, hf⟩ := f
  by_cases h : f < 32
  · have h1 : (f + 32) % 64 = f + 32 := by omega
    have h2 : f % 32 = f := by omega
    have h3 : ¬ f + 32 < 32 := by omega
    have h4 : (f + 32) % 32 = f := by omega
    simp only [rotSplit, rot, unsplit, Equiv.coe_fn_mk, h, h1, h2, h3, h4, if_true, if_false]
    simp only [Nat.mul_mod_right, if_true, Nat.mul_div_cancel_left f (by decide : 0 < 2), sub_eq_add_neg, EReal.neg_mul]
  · have h1 : (f + 32) % 64 = f - 32 := by omega
    have h2 : f % 32 = f - 32 := by omega
    have h3 : f - 32 < 32 := by omega
    have h4 : (f - 32) % 32 = f - 32 := by omega
    have h5 : (2 * (f - 32) + 1) % 2 = 1 := by omega
    have h6 : (2 * (f - 32) + 1) / 2 = f - 32 := by omega
    simp only [rotSplit, rot, unsplit, Equiv.coe_fn_mk, h, h1, h2, h3, h4, h5, h6, if_true, if_false, one_ne_zero]
    rw [add_comm]

/-- Normalising in half-split order is normalising in interleaved order. -/
theorem hat_unsplit (r : Fin 64 → EReal) (f : Fin 64) :
    hat (fun f => r (unsplit f)) f = hat r (unsplit f) := by
  unfold hat
  rw [Equiv.sum_comp unsplit fun e => r e * r e]

/-- The number added to a norm is a positive real. -/
theorem eps_pos : ∃ ε : ℝ, 0 < ε ∧ eps = (ε : EReal) := by
  refine ⟨_, ?_, (by simp [eps, Ideal.ofBits, Ideal.ieee, -EReal.coe_mul]; rfl)⟩
  norm_num

/-- A square is not `⊥`. -/
theorem sq_nonneg (x : EReal) : 0 ≤ x * x := by
  induction x with
  | bot => simp
  | top => simp
  | coe a => rw [← EReal.coe_mul]; exact_mod_cast mul_self_nonneg a

/-- A normalised entry is a real, whatever the row: an infinite entry makes the norm infinite, and the quotient by an
    infinite norm is zero. -/
theorem hat_real (r : Fin 64 → EReal) (e : Fin 64) : ∃ a : ℝ, hat r e = (a : EReal) := by
  obtain ⟨ε, hε, he⟩ := eps_pos
  unfold hat
  rw [he]
  have hnn : 0 ≤ ∑ k, r k * r k := Finset.sum_nonneg fun k _ => sq_nonneg _
  have hle : r e * r e ≤ ∑ k, r k * r k :=
    Finset.single_le_sum (f := fun k => r k * r k) (fun k _ => sq_nonneg _) (Finset.mem_univ e)
  generalize (∑ k, r k * r k) = S at hnn hle
  induction S with
  | bot => simp at hnn
  | top =>
    refine ⟨0, ?_⟩
    rw [Ideal.sqrt_top, EReal.top_add_coe, Ideal.div, if_neg (by simp)]
    simp
  | coe s =>
    have hs : 0 ≤ s := by exact_mod_cast hnn
    have hd : Real.sqrt s + ε ≠ 0 := by have := Real.sqrt_nonneg s; linarith
    rw [Ideal.sqrt_coe, if_neg (not_lt.2 hs), ← EReal.coe_add, Ideal.div_coe hd]
    generalize r e = x at hle
    induction x with
    | bot => simp at hle
    | top => simp at hle
    | coe a => exact ⟨a * (1 / (Real.sqrt s + ε)), by rw [EReal.coe_mul]⟩

/-! ## One row of attention -/

/-- The weight of place `k` in row `q`: the exponential of its score up to the row's own place, nothing after. -/
def wt {n : ℕ} (σ : Fin n → ℝ) (q k : Fin n) : ℝ := if k.val ≤ q.val then Real.exp (σ k) else 0

theorem wt_nonneg {n : ℕ} (σ : Fin n → ℝ) (q k : Fin n) : 0 ≤ wt σ q k := by
  unfold wt; split
  · exact (Real.exp_pos _).le
  · exact le_rfl

theorem wt_sum_pos {n : ℕ} (σ : Fin n → ℝ) (q : Fin n) : 0 < ∑ k, wt σ q k :=
  Finset.sum_pos' (fun k _ => wt_nonneg σ q k) ⟨q, Finset.mem_univ q, by unfold wt; rw [if_pos le_rfl]; exact Real.exp_pos _⟩

/-- The masked score of place `k` in row `q`. -/
def masked {n : ℕ} (σ : Fin n → ℝ) (q k : Fin n) : EReal := if k.val ≤ q.val then (σ k : EReal) else ⊥

/-- The greatest masked score of a row is a real. -/
theorem max_real {n : ℕ} (σ : Fin n → ℝ) (q : Fin n) :
    ∃ μ : ℝ, max ⊥ (Finset.univ.fold max ⊥ (masked σ q)) = (μ : EReal) := by
  have hsup : Finset.univ.fold max ⊥ (masked σ q) = Finset.univ.sup (masked σ q) := rfl
  rw [hsup, max_eq_right bot_le]
  have hlo : (σ q : EReal) ≤ Finset.univ.sup (masked σ q) := by
    have := Finset.le_sup (f := masked σ q) (Finset.mem_univ q)
    rwa [masked, if_pos le_rfl] at this
  have hhi : Finset.univ.sup (masked σ q) < ⊤ := by
    rw [Finset.sup_lt_iff (by simp)]
    intro k _
    unfold masked; split
    · exact EReal.coe_lt_top _
    · simp
  induction h : Finset.univ.sup (masked σ q) with
  | bot => rw [h] at hlo; simp at hlo
  | top => rw [h] at hhi; simp at hhi
  | coe a => exact ⟨a, rfl⟩

/-- The exponential of a masked score less a real shift. -/
theorem exp_masked {n : ℕ} (σ : Fin n → ℝ) (q k : Fin n) (μ : ℝ) :
    Ideal.exp (masked σ q k - (μ : EReal)) = ((wt σ q k * Real.exp (-μ) : ℝ) : EReal) := by
  unfold masked wt
  split
  · rw [← EReal.coe_sub, Ideal.exp_coe, ← Real.exp_add, sub_eq_add_neg]
  · rw [EReal.bot_sub, Ideal.exp_bot]; simp

/-- A softmax row against a column of values is the row of unshifted exponentials against it, divided by their sum. -/
theorem softmax_row {n : ℕ} (σ : Fin n → ℝ) (q : Fin n) (v : Fin n → EReal) (M : EReal)
    (hM : M = max ⊥ (Finset.univ.fold max ⊥ (masked σ q))) :
    ∑ k, Ideal.div (Ideal.exp (masked σ q k - M)) (∑ l, Ideal.exp (masked σ q l - M)) * v k
      = (∑ k, v k * ((wt σ q k : ℝ) : EReal)) * Ideal.div 1 (∑ k, ((wt σ q k : ℝ) : EReal)) := by
  obtain ⟨μ, hμ⟩ := max_real σ q
  rw [hM, hμ]
  simp only [exp_masked]
  have hpos := wt_sum_pos σ q
  have hD : (∑ l, ((wt σ q l * Real.exp (-μ) : ℝ) : EReal)) = (((∑ l, wt σ q l) * Real.exp (-μ) : ℝ) : EReal) := by
    rw [← coe_sum, Finset.sum_mul]
  have hne : (∑ l, wt σ q l) * Real.exp (-μ) ≠ 0 := (mul_pos hpos (Real.exp_pos _)).ne'
  rw [hD, ← coe_sum, Ideal.div_coe hpos.ne', one_mul, ← sum_mul_coe _ _ _ (by positivity)]
  refine Finset.sum_congr rfl fun k _ => ?_
  rw [Ideal.div_coe hne, ← EReal.coe_mul, mul_comm, mul_assoc (v k), ← EReal.coe_mul]
  congr 2
  have := Real.exp_pos (-μ)
  field_simp

/-! ## The scores -/

/-- A power of two at a score times `1 / ln 2` is the exponential of the score. -/
theorem exp2_scaled (s : ℝ) : Ideal.exp2 ((s * (Real.log 2)⁻¹ : ℝ) : EReal) = ((Real.exp s : ℝ) : EReal) := by
  have h2 : Real.log 2 ≠ 0 := (Real.log_pos one_lt_two).ne'
  rw [Ideal.exp2_coe]
  congr 1
  show (2 : ℝ) ^ (s * (Real.log 2)⁻¹) = _
  rw [Real.rpow_def_of_pos two_pos, mul_comm s, ← mul_assoc, mul_inv_cancel₀ h2, one_mul]

/-- The real score of a row of normalised queries and a row of normalised keys under a temperature. -/
def score (a b : Fin 64 → ℝ) (t : ℝ) : ℝ := ∑ e, a e * t * b e

/-- The reference's score is that real. -/
theorem score_ref (a b : Fin 64 → ℝ) (t : ℝ) :
    ∑ e, (a e : EReal) * (t : EReal) * (b e : EReal) = ((score a b t : ℝ) : EReal) := by
  unfold score; rw [coe_sum]; simp only [EReal.coe_mul]

/-- The kernel's score, in half-split order and scaled for base two, is that real times `1 / ln 2`. -/
theorem score_kernel (a b : Fin 64 → ℝ) (t L : ℝ) :
    ∑ f, (b (unsplit f) : EReal) * ((a (unsplit f) : EReal) * ((t : EReal) * (L : EReal)))
      = ((score a b t * L : ℝ) : EReal) := by
  unfold score
  rw [Equiv.sum_comp unsplit fun e => (b e : EReal) * ((a e : EReal) * ((t : EReal) * (L : EReal))), Finset.sum_mul, coe_sum]
  refine Finset.sum_congr rfl fun e _ => ?_
  simp only [← EReal.coe_mul]
  congr 1; ring

end Cert.Attend

end
-- ==== Proof.Tile.lean ====
module
public import proofs.«01_k».proof.Proof.Gen.KernelIdeal.Skeleton
public import Idealize.ShloMosaic.Lib.Pointwise

/-! # The stored tiles of the attention kernel, element by element -/

@[expose] public section
noncomputable section

namespace Cert.KernelIdeal.Tile

open Cert.KernelIdeal Cert.KernelIdeal.Gen
open Idealize.ShloMosaic Idealize.ShloMosaic.TcCoe Idealize.ShloMosaic.Pointwise

/-- The square mask keeps the positions whose row number is at most the column number. -/
theorem mask_select (a j : Fin 512) (x : EReal) :
    Scalar.select (IntOp.cmpi .sle (BitVec.ofNat 32 ↑a) (BitVec.ofNat 32 ↑j)) x 0 = if a ≤ j then x else 0 := by
  have h : IntOp.cmpi .sle (BitVec.ofNat 32 ↑a) (BitVec.ofNat 32 ↑j) = BitVec.ofBool (decide (a ≤ j)) := by
    have e (n : Fin 512) : (BitVec.ofNat 32 ↑n).toInt = (n : ℤ) := by
      rw [BitVec.toInt_eq_toNat_of_lt (by simp; omega)]; simp; omega
    simp only [IntOp.cmpi, BitVec.sle, e, Int.ofNat_le, Fin.val_fin_le]
  rw [h]; by_cases hc : a ≤ j <;> simp [Scalar.select, hc]

/-- Value row `r` weighted over the diagonal stretch: keys at most the query. -/
def diag (q k : (⟨2, ![512, 64]⟩ : Shape).Idx → EReal) (v : (⟨3, ![1, 72, 512]⟩ : Shape).Idx → EReal) (r : Fin 72)
    (j : Fin 512) : EReal :=
  ∑ a : Fin 512, v (ix3 0 r a) * if a ≤ j then Ideal.exp2 (∑ f : Fin 64, k (ix2 a f) * q (ix2 j f)) else 0

/-- Value row `r` weighted over an earlier stretch: every key. -/
def past {n : Nat} (q : (⟨2, ![512, 64]⟩ : Shape).Idx → EReal) (k : (⟨2, ![n, 64]⟩ : Shape).Idx → EReal)
    (v : (⟨3, ![1, 72, n]⟩ : Shape).Idx → EReal) (r : Fin 72) (j : Fin 512) : EReal :=
  ∑ a : Fin n, v (ix3 0 r a) * Ideal.exp2 (∑ f : Fin 64, k (ix2 a f) * q (ix2 j f))

/-- A weighted row over the row of ones' total. -/
def ratio (acc : Fin 72 → EReal) (e : Fin 64) : EReal := acc ⟨e, by omega⟩ * Ideal.div 1 (acc 64)

section
variable (q k : Vec Ideal S512x64 .f32) (v : Vec Ideal S1x72x512 .bf16) (e : Fin 64) (j : Fin 512)

theorem first0 : k0_pay20 (k0_pay19 q k v) (ix3 0 e j) = ratio (fun r => diag q k v r j) e := by
  pointwise [k0_pay20, k0_pay19, k0_pay18, mask_select, ratio, diag]
  rfl

theorem first1 : k0_pay21 k0_pay18 q k v (ix3 0 e j) = ratio (fun r => diag q k v r j) e := by
  pointwise [k0_pay21, k0_pay18, mask_select, ratio, diag]
  rfl

theorem second0 (k0 : Vec Ideal S512x64 .f32) (v0 : Vec Ideal S1x72x512 .bf16) :
    k0_pay23 q (k0_pay22 k0_pay18 q k v) k0 v0 (ix3 0 e j) = ratio (fun r => diag q k v r j + past q k0 v0 r j) e := by
  pointwise [k0_pay23, k0_pay22, k0_pay18, mask_select, ratio, diag, past]
  rfl

theorem second1 (k0 : Vec Ideal S512x64 .f32) (v0 : Vec Ideal S1x72x512 .bf16) :
    k0_pay27 (k0_pay24 k0_pay18 q k v) (k0_pay25 v0) (k0_pay26 q k0) (constant S72x512 .f32 0x00000000#32) (ix3 0 e j) =
      ratio (fun r => diag q k v r j + past q k0 v0 r j) e := by
  pointwise [k0_pay27, k0_pay24, k0_pay25, k0_pay26, k0_pay18, mask_select, ratio, diag, past]
  rfl

theorem third0 (k0 : Vec Ideal S1024x64 .f32) (v0 : Vec Ideal S1x72x1024 .bf16) :
    k0_pay29 (k0_pay28 k0_pay18 q k v k0 v0) (ix3 0 e j) = ratio (fun r => diag q k v r j + past q k0 v0 r j) e := by
  pointwise [k0_pay29, k0_pay28, k0_pay18, mask_select, ratio, diag, past]
  rfl

theorem third1 (k0 : Vec Ideal S1024x64 .f32) (v0 : Vec Ideal S1x72x1024 .bf16) :
    k0_pay30 k0_pay18 q k v k0 v0 (ix3 0 e j) = ratio (fun r => diag q k v r j + past q k0 v0 r j) e := by
  pointwise [k0_pay30, k0_pay18, mask_select, ratio, diag, past]
  rfl

theorem fourth0 (k0 : Vec Ideal S1536x64 .f32) (v0 : Vec Ideal S1x72x1536 .bf16) :
    k0_pay31 k0_pay18 q k v k0 v0 (ix3 0 e j) = ratio (fun r => diag q k v r j + past q k0 v0 r j) e := by
  pointwise [k0_pay31, k0_pay18, mask_select, ratio, diag, past]
  rfl

theorem fourth1 (k0 : Vec Ideal S1536x64 .f32) (v0 : Vec Ideal S1x72x1536 .bf16) :
    k0_pay1 q (k0_pay32 k0_pay18 q k) v k0 v0 (ix3 0 e j) = ratio (fun r => diag q k v r j + past q k0 v0 r j) e := by
  pointwise [k0_pay1, k0_pay32, k0_pay18, mask_select, ratio, diag, past]
  rfl

end

/-! ## The scratch contents, element by element -/

/-- The other half of a column's head: the column 32 further on or back. -/
def across (j : Fin 128) : Fin 128 := ⟨64 * (j / 64) + (j % 64 + 32) % 64, by omega⟩

/-- A row after the rotation. -/
def turned (c s x : Vec Ideal S2048x128 .f32) (i : Fin 2048) (j : Fin 128) : EReal :=
  c (ix2 i j) * x (ix2 i j) + s (ix2 i j) * x (ix2 i (across j))

/-- A rotated row over the length of its head's part. -/
def unit (c s x : Vec Ideal S2048x128 .f32) (i : Fin 2048) (j : Fin 128) : EReal :=
  Ideal.div (turned c s x i j)
    (Ideal.sqrt (∑ l : Fin 128, if (l : ℕ) / 64 = j / 64 then turned c s x i l * turned c s x i l else 0) +
      Ideal.ofBits .f32 0x322BCC77#32)

/-- The row number of each position of a 128 x 128 square. -/
abbrev rows : IVec S128x128 32 := iota .tc S128x128 32 [0] iota_S128x128_d0_w32

/-- The column number of each position of a 128 x 128 square. -/
abbrev cols : IVec S128x128 32 := iota .tc S128x128 32 [1] iota_S128x128_d1_w32

/-- Floor division of a word by 64, as the kernel spells it. -/
def halfWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

theorem halfWord_eq : ∀ n : Fin 128, halfWord (BitVec.ofNat 32 ↑n) = BitVec.ofNat 32 (n / 64) := by decide +kernel

/-- Two small numbers are equal as words exactly when they are equal. -/
theorem eq_select (a b : ℕ) (ha : a < 2 ^ 32) (hb : b < 2 ^ 32) (x : EReal) :
    Scalar.select (IntOp.cmpi .eq (BitVec.ofNat 32 a) (BitVec.ofNat 32 b)) x 0 = if a = b then x else 0 := by
  have h : IntOp.cmpi .eq (BitVec.ofNat 32 a) (BitVec.ofNat 32 b) = BitVec.ofBool (decide (a = b)) := by
    have e : (BitVec.ofNat 32 a = BitVec.ofNat 32 b) ↔ a = b := by
      rw [← BitVec.toNat_inj, BitVec.toNat_ofNat, BitVec.toNat_ofNat, Nat.mod_eq_of_lt ha, Nat.mod_eq_of_lt hb]
    simp [IntOp.cmpi, e, beq_eq_decide]
  rw [h]; by_cases hc : a = b <;> simp [Scalar.select, hc]

/-- The block-diagonal square of ones: one where both columns belong to one head. -/
theorem heads_apply (i j : Fin 128) :
    k0_pay8 (F := Ideal) cols k0_pay5 k0_pay6 k0_pay7 (ix2 i j) = if (i : ℕ) / 64 = j / 64 then 1 else 0 := by
  pointwise [k0_pay8, k0_pay5, k0_pay6, k0_pay7]
  change Scalar.select (IntOp.cmpi .eq (halfWord _) (halfWord _)) (1 : EReal) 0 = _
  rw [halfWord_eq, halfWord_eq, eq_select _ _ (by omega) (by omega)]

theorem across_apply (x : Vec Ideal S2048x128 .f32) (i : Fin 2048) (j : Fin 128) :
    (if h : (j : ℕ) < 32 then x (ix2 i ⟨32 + ↑j, by omega⟩) else
      if h : (j : ℕ) - 32 < 32 then x (ix2 i ⟨j - 32, by omega⟩) else
        if h : (j : ℕ) - 32 - 32 < 32 then x (ix2 i ⟨96 + (↑j - 32 - 32), by omega⟩)
        else x (ix2 i ⟨64 + (↑j - 32 - 32 - 32), by omega⟩)) = x (ix2 i (across j)) := by
  unfold across
  split_ifs <;> (congr 2; apply Fin.ext; simp only []; omega)

theorem keys_apply (c s x : Vec Ideal S2048x128 .f32) (i : Fin 2048) (j : Fin 128) :
    k0_pay10 (k0_pay9 (k0_pay2 c) (k0_pay3 s) cols k0_pay5 k0_pay6 k0_pay7 x) (ix2 i j) = unit c s x i j := by
  pointwise [k0_pay10, k0_pay9, k0_pay2, k0_pay3, heads_apply, unit, turned]
  simp only [← across_apply, mul_ite, mul_one, mul_zero]

theorem queries_apply (c s x : Vec Ideal S2048x128 .f32) (g : Vec Ideal S1x1x128 .f32) (i : Fin 2048) (j : Fin 128) :
    k0_pay11 (k0_pay2 c) (k0_pay3 s) (k0_pay8 cols k0_pay5 k0_pay6 k0_pay7) x g (ix2 i j) =
      unit c s x i j * (g (ix3 0 0 j) * Named.named κ "log2e" 0x3FB8AA3B#32) := by
  pointwise [k0_pay11, k0_pay2, k0_pay3, heads_apply, unit, turned]
  simp only [← across_apply, mul_ite, mul_one, mul_zero]

/-- A row against a column of the identity is that column's entry. -/
theorem pick (x : Vec Ideal S2048x128 .f32) (i : Fin 2048) (r : Fin 128) :
    (∑ l : Fin 128, Scalar.select (IntOp.cmpi .eq (BitVec.ofNat 32 ↑r) (BitVec.ofNat 32 ↑l)) (x (ix2 i l)) 0) =
      x (ix2 i r) := by
  rw [Finset.sum_eq_single r (fun l _ hl => ?_) (fun h => absurd (Finset.mem_univ _) h)]
  · rw [eq_select _ _ (by omega) (by omega), if_pos rfl]
  · rw [eq_select _ _ (by omega) (by omega), if_neg fun h => hl (Fin.ext h.symm)]

theorem values0_apply (x : Vec Ideal S2048x128 .f32) (r : Fin 64) (i : Fin 2048) :
    k0_pay13 rows cols x (ix3 0 r i) = x (ix2 i ⟨r, by omega⟩) := by
  pointwise [k0_pay13, k0_pay12]
  exact pick x i ⟨r, by omega⟩

theorem values1_apply (x : Vec Ideal S2048x128 .f32) (r : Fin 64) (i : Fin 2048) :
    k0_pay14 (k0_pay12 rows cols x) (ix3 0 r i) = x (ix2 i ⟨64 + r, by omega⟩) := by
  pointwise [k0_pay14, k0_pay12]
  exact pick x i ⟨64 + r, by omega⟩

theorem ones0_apply (r : Fin 8) (i : Fin 2048) : k0_pay16 (F := Ideal) (ix3 0 r i) = 1 := by
  pointwise [k0_pay16, k0_pay15]

theorem ones1_apply (r : Fin 8) (i : Fin 2048) : k0_pay17 (F := Ideal) (ix3 0 r i) = 1 := by
  pointwise [k0_pay17, k0_pay15]

theorem projected_apply (x : Vec Ideal S1x2048x1024 .f32) (w : Vec Ideal S1x1024x384 .f32) (i : Fin 2048) (j : Fin 384) :
    k0_pay4 x w (ix2 i j) = ∑ d : Fin 1024, x (ix3 0 i d) * w (ix3 0 d j) := by
  pointwise [k0_pay4]

end Cert.KernelIdeal.Tile
-- ==== Proof.Block.lean ====
module
public import proofs.«01_k».proof.Proof.Gen.KernelIdeal.Frame
public import proofs.«01_k».proof.Proof.Attend
public import proofs.«01_k».proof.Proof.Tile
public import Idealize.ShloMosaic.Lib.Pipeline.Value
public import Idealize.ShloMosaic.Lib.Pipeline.ValueKit.Tiles
public import Idealize.ShloMosaic.Lib.Tactic
public import Idealize.ShloMosaic.Lib.Pointwise

/-! # What one step of the attention kernel leaves in its output block

The contents of the four scratch buffers as functions of the step's input blocks, and the output block as the
eight tiles stored from them. -/

@[expose] public section
noncomputable section

namespace Cert.KernelIdeal.Block

open Cert.KernelIdeal Cert.KernelIdeal.Gen
open Idealize.ShloMosaic Idealize.ShloMosaic.TcCoe Idealize.ShloMosaic.Pointwise
open Idealize.SL.Sem Tile

/-- The normalised, rotated key rows held in scratch, from the projected rows. -/
abbrev keys (c s : Vec Ideal S2048x128 .f32) (qkv : Vec Ideal S2048x384 .f32) : Vec Ideal S2048x128 .f32 :=
  k0_pay10 (k0_pay9 (k0_pay2 c) (k0_pay3 s) cols k0_pay5 k0_pay6 k0_pay7
    (View.ld qkv (Rect.unit ![0, 128] ![2048, 128] (by decide))))

/-- The normalised, rotated and scaled query rows held in scratch. -/
abbrev queries (c s : Vec Ideal S2048x128 .f32) (g : Vec Ideal S1x1x128 .f32) (qkv : Vec Ideal S2048x384 .f32) :
    Vec Ideal S2048x128 .f32 :=
  k0_pay11 (k0_pay2 c) (k0_pay3 s) (k0_pay8 cols k0_pay5 k0_pay6 k0_pay7)
    (View.ld qkv (Rect.unit ![0, 0] ![2048, 128] (by decide))) g

/-- The transposed value rows of both heads, each followed by eight rows of ones, as stored. -/
abbrev values (qkv : Vec Ideal S2048x384 .f32) : Vec Ideal S2x72x2048 .bf16 :=
  View.canon [
    ⟨Rect.unit ![1, 64, 0] ![1, 8, 2048] (by decide), k0_pay17 (F := Ideal)⟩,
    ⟨Rect.unit ![0, 64, 0] ![1, 8, 2048] (by decide), k0_pay16 (F := Ideal)⟩,
    ⟨Rect.unit ![1, 0, 0] ![1, 64, 2048] (by decide),
      k0_pay14 (F := Ideal) (k0_pay12 rows cols (View.ld qkv (Rect.unit ![0, 256] ![2048, 128] (by decide))))⟩,
    ⟨Rect.unit ![0, 0, 0] ![1, 64, 2048] (by decide),
      k0_pay13 (F := Ideal) rows cols (View.ld qkv (Rect.unit ![0, 256] ![2048, 128] (by decide)))⟩]

variable (V : (c : Dev nD) → (b : Ref sig .tc) → Buf (Elt Ideal) ((c : Thread nD τ).loc b))

/-- A load of 64 columns of 128. -/
abbrev part {n r o : Nat} (x : Vec Ideal S2048x128 .f32) (h : ∀ a, ![r, o] a + ![n, 64] a ≤ S2048x128.size a) :
    (⟨2, ![n, 64]⟩ : Shape).Idx → EReal :=
  View.ld x (Rect.unit ![r, o] ![n, 64] h)

/-- A load of one head's value rows over a stretch of positions. -/
abbrev head {n s r : Nat} (v : Vec Ideal S2x72x2048 .bf16) (h : ∀ a, ![s, 0, r] a + ![1, 72, n] a ≤ S2x72x2048.size a) :
    (⟨3, ![1, 72, n]⟩ : Shape).Idx → EReal :=
  View.ld v (Rect.unit ![s, 0, r] ![1, 72, n] h)

/-- The eight stored tiles, from the query, key and value scratch contents; the last stored comes first. -/
abbrev tiles (q k : Vec Ideal S2048x128 .f32) (v : Vec Ideal S2x72x2048 .bf16) :
    List (View.Piece (Elt Ideal) S1x128x2048 .bf16) := [
  ⟨Rect.unit ![0, 64, 1536] ![1, 64, 512] (by decide),
    k0_pay1 (F := Ideal) (part (n := 512) (r := 1536) (o := 64) q (by decide))
      (k0_pay32 k0_pay18 (part (n := 512) (r := 1536) (o := 64) q (by decide)) (part (n := 512) (r := 1536) (o := 64) k (by decide)))
      (head (n := 512) (s := 1) (r := 1536) v (by decide))
      (part (n := 1536) (r := 0) (o := 64) k (by decide)) (head (n := 1536) (s := 1) (r := 0) v (by decide))⟩,
  ⟨Rect.unit ![0, 0, 1536] ![1, 64, 512] (by decide),
    k0_pay31 (F := Ideal) k0_pay18 (part (n := 512) (r := 1536) (o := 0) q (by decide)) (part (n := 512) (r := 1536) (o := 0) k (by decide))
      (head (n := 512) (s := 0) (r := 1536) v (by decide))
      (part (n := 1536) (r := 0) (o := 0) k (by decide)) (head (n := 1536) (s := 0) (r := 0) v (by decide))⟩,
  ⟨Rect.unit ![0, 64, 1024] ![1, 64, 512] (by decide),
    k0_pay30 (F := Ideal) k0_pay18 (part (n := 512) (r := 1024) (o := 64) q (by decide)) (part (n := 512) (r := 1024) (o := 64) k (by decide))
      (head (n := 512) (s := 1) (r := 1024) v (by decide))
      (part (n := 1024) (r := 0) (o := 64) k (by decide)) (head (n := 1024) (s := 1) (r := 0) v (by decide))⟩,
  ⟨Rect.unit ![0, 0, 1024] ![1, 64, 512] (by decide),
    k0_pay29 (F := Ideal) (k0_pay28 k0_pay18 (part (n := 512) (r := 1024) (o := 0) q (by decide)) (part (n := 512) (r := 1024) (o := 0) k (by decide))
      (head (n := 512) (s := 0) (r := 1024) v (by decide))
      (part (n := 1024) (r := 0) (o := 0) k (by decide)) (head (n := 1024) (s := 0) (r := 0) v (by decide)))⟩,
  ⟨Rect.unit ![0, 64, 512] ![1, 64, 512] (by decide),
    k0_pay27 (F := Ideal) (k0_pay24 k0_pay18 (part (n := 512) (r := 512) (o := 64) q (by decide)) (part (n := 512) (r := 512) (o := 64) k (by decide))
      (head (n := 512) (s := 1) (r := 512) v (by decide)))
      (k0_pay25 (head (n := 512) (s := 1) (r := 0) v (by decide)))
      (k0_pay26 (part (n := 512) (r := 512) (o := 64) q (by decide)) (part (n := 512) (r := 0) (o := 64) k (by decide)))
      (constant S72x512 .f32 0x00000000#32)⟩,
  ⟨Rect.unit ![0, 0, 512] ![1, 64, 512] (by decide),
    k0_pay23 (F := Ideal) (part (n := 512) (r := 512) (o := 0) q (by decide))
      (k0_pay22 k0_pay18 (part (n := 512) (r := 512) (o := 0) q (by decide)) (part (n := 512) (r := 512) (o := 0) k (by decide))
        (head (n := 512) (s := 0) (r := 512) v (by decide)))
      (part (n := 512) (r := 0) (o := 0) k (by decide)) (head (n := 512) (s := 0) (r := 0) v (by decide))⟩,
  ⟨Rect.unit ![0, 64, 0] ![1, 64, 512] (by decide),
    k0_pay21 (F := Ideal) k0_pay18 (part (n := 512) (r := 0) (o := 64) q (by decide)) (part (n := 512) (r := 0) (o := 64) k (by decide))
      (head (n := 512) (s := 1) (r := 0) v (by decide))⟩,
  ⟨Rect.unit ![0, 0, 0] ![1, 64, 512] (by decide),
    k0_pay20 (F := Ideal) (k0_pay19 (part (n := 512) (r := 0) (o := 0) q (by decide)) (part (n := 512) (r := 0) (o := 0) k (by decide))
      (head (n := 512) (s := 0) (r := 0) v (by decide)))⟩]

/-- The output block of a step is the eight tiles over the scratch contents made from its input blocks. -/
theorem outsAt0_eq (c : Dev nD) (t : Fin cfg0.N) : outsAt0 V c t = View.canon (tiles
  (queries (iblk0 V c 2 t) (iblk0 V c 3 t) (iblk0 V c 4 t) (k0_pay4 (iblk0 V c 0 t) (iblk0 V c 1 t)))
  (keys (iblk0 V c 2 t) (iblk0 V c 3 t) (k0_pay4 (iblk0 V c 0 t) (iblk0 V c 1 t)))
  (values (k0_pay4 (iblk0 V c 0 t) (iblk0 V c 1 t)))) := by
  have h0 (X : Vec Ideal S1x2048x1024 .f32) (h) : View.ld X (Rect.unit ![0, 0, 0] ![1, 2048, 1024] h) = X :=
    View.ld_unit_lit (S := S1x2048x1024) h X (by decide)
  have h1 (X : Vec Ideal S1x1024x384 .f32) (h) : View.ld X (Rect.unit ![0, 0, 0] ![1, 1024, 384] h) = X :=
    View.ld_unit_lit (S := S1x1024x384) h X (by decide)
  have h2 (X : Vec Ideal S2048x128 .f32) (h) : View.ld X (Rect.unit ![0, 0] ![2048, 128] h) = X :=
    View.ld_unit_lit (S := S2048x128) h X (by decide)
  have h4 (X : Vec Ideal S1x1x128 .f32) (h) : View.ld X (Rect.unit ![0, 0, 0] ![1, 1, 128] h) = X :=
    View.ld_unit_lit (S := S1x1x128) h X (by decide)
  have k0 (X : Vec Ideal S2048x384 .f32) (h) :
      View.canon (Val := Elt Ideal) (s := S2048x384) (e := .f32) [⟨Rect.unit ![0, 0] ![2048, 384] h, X⟩] = X :=
    View.canon_cons_unit_lit (S := S2048x384) h X [] (by decide)
  have k1 (X : Vec Ideal S2048x128 .f32) (h) :
      View.canon (Val := Elt Ideal) (s := S2048x128) (e := .f32) [⟨Rect.unit ![0, 0] ![2048, 128] h, X⟩] = X :=
    View.canon_cons_unit_lit (S := S2048x128) h X [] (by decide)
  unfold outsAt0
  unfold out0_A_5
  rw [View.read_writes_eq_canon _ _ _ (fun y => cover0_A_5 (y := y) ..)]
  unfold kernelRun0_A
  dsimp only
  sl_unfold_words
  simp only [View.readCov_eq_canon', View.readAt_eq_ld, Memref.IsWhole.read_unread, h0, h1, h2, h4, k0, k1]
  rfl

/-! ## The tiles together -/

theorem part_apply {n r o : Nat} (x : Vec Ideal S2048x128 .f32) (h : ∀ a, ![r, o] a + ![n, 64] a ≤ S2048x128.size a)
    (a : Fin n) (f : Fin 64) (ha : r + a < 2048) (hf : o + f < 128) :
    part x h (ix2 a f) = x (ix2 ⟨r + a, ha⟩ ⟨o + f, hf⟩) :=
  View.ld_unit_apply_of (S := S2048x128) x _ _ h (ix2 a f) _ fun d => by match d with | ⟨0, _⟩ => rfl | ⟨1, _⟩ => rfl

theorem head_apply {n s r : Nat} (v : Vec Ideal S2x72x2048 .bf16) (h : ∀ a, ![s, 0, r] a + ![1, 72, n] a ≤ S2x72x2048.size a)
    (e : Fin 72) (a : Fin n) (hs : s < 2) (ha : r + a < 2048) : head v h (ix3 0 e a) = v (ix3 ⟨s, hs⟩ e ⟨r + a, ha⟩) :=
  View.ld_unit_apply_of (S := S2x72x2048) v _ _ h (ix3 0 e a) _ fun d => by
    match d with
    | ⟨0, _⟩ => rfl
    | ⟨1, _⟩ => exact (Nat.zero_add _).symm
    | ⟨2, _⟩ => rfl

/-- Column `f` of head `s` of the pair. -/
def hcol (s : Fin 2) (f : Fin 64) : Fin 128 := ⟨64 * s + f, by omega⟩

/-- Value row `r` of head `s` weighted for the query at position `i`: keys at most the query. -/
def mix (q k : Vec Ideal S2048x128 .f32) (v : Vec Ideal S2x72x2048 .bf16) (s : Fin 2) (i : Fin 2048) (r : Fin 72) : EReal :=
  ∑ a : Fin 2048, v (ix3 s r a) *
    if a ≤ i then Ideal.exp2 (∑ f : Fin 64, k (ix2 a (hcol s f)) * q (ix2 i (hcol s f))) else 0

/-- The output block's entry at head-row `r` and position `i`. -/
def entry (q k : Vec Ideal S2048x128 .f32) (v : Vec Ideal S2x72x2048 .bf16) (r : Fin 128) (i : Fin 2048) : EReal :=
  ratio (mix q k v ⟨r / 64, by omega⟩ i) ⟨r % 64, by omega⟩

/-- The whole weighted row is the diagonal stretch and the earlier one together. -/
theorem mix_split {base s : ℕ} (hb : base + 512 ≤ 2048) (hs : s < 2) (q k : Vec Ideal S2048x128 .f32) (v : Vec Ideal S2x72x2048 .bf16)
    (hd) (hp) (hv) (hw) (j : Fin 512) (r : Fin 72) :
    mix q k v ⟨s, hs⟩ ⟨base + j, by omega⟩ r =
      diag (part (n := 512) (r := base) (o := 64 * s) q hd) (part (n := 512) (r := base) (o := 64 * s) k hd)
          (head (n := 512) (s := s) (r := base) v hv) r j +
        past (part (n := 512) (r := base) (o := 64 * s) q hd) (part (n := base) (r := 0) (o := 64 * s) k hp)
          (head (n := base) (s := s) (r := 0) v hw) r j := by
  have key := Attend.sum_split 2048 base 512 hb
    (fun a => if h : a < 2048 then v (ix3 ⟨s, hs⟩ r ⟨a, h⟩) *
      if a ≤ base + j then Ideal.exp2 (∑ f : Fin 64, k (ix2 ⟨a, h⟩ (hcol ⟨s, hs⟩ f)) *
        q (ix2 ⟨base + j, by omega⟩ (hcol ⟨s, hs⟩ f))) else 0 else 0)
    (fun a ha => by
      by_cases h : a < 2048
      · rw [dif_pos h, if_neg (by omega), mul_zero]
      · rw [dif_neg h])
  have e1 : mix q k v ⟨s, hs⟩ ⟨base + j, by omega⟩ r = _ := Eq.trans ?_ key
  · rw [e1]
    congr 1
    · refine Finset.sum_congr rfl fun a _ => ?_
      rw [dif_pos (by omega)]
      rw [head_apply v hv r a hs (by omega)]
      simp only [Nat.add_le_add_iff_left, Fin.val_fin_le]
      congr 2
      refine congrArg _ (Finset.sum_congr rfl fun f _ => ?_)
      rw [part_apply k hd a f (by omega) (by omega), part_apply q hd j f (by omega) (by omega)]
      rfl
    · refine Finset.sum_congr rfl fun a _ => ?_
      rw [dif_pos (by omega), if_pos (by omega), head_apply v hw r a hs (by omega)]
      congr 2
      · simp only [Nat.zero_add]
      · refine Finset.sum_congr rfl fun f _ => ?_
        rw [part_apply k hp a f (by omega) (by omega), part_apply q hd j f (by omega) (by omega)]
        simp only [Nat.zero_add]
        rfl
  · refine Finset.sum_congr rfl fun a _ => ?_
    rw [dif_pos a.isLt]
    rfl

/-- The entry in the diagonal stretch of a later tile. -/
theorem entry_later {base s : ℕ} (hb : base + 512 ≤ 2048) (hs : s < 2) (q k : Vec Ideal S2048x128 .f32)
    (v : Vec Ideal S2x72x2048 .bf16) (hd) (hp) (hv) (hw) (e : Fin 64) (j : Fin 512) (r : Fin 128) (i : Fin 2048)
    (hr : (r : ℕ) = 64 * s + e) (hi : (i : ℕ) = base + j) :
    ratio (fun r =>
      diag (part (n := 512) (r := base) (o := 64 * s) q hd) (part (n := 512) (r := base) (o := 64 * s) k hd)
          (head (n := 512) (s := s) (r := base) v hv) r j +
        past (part (n := 512) (r := base) (o := 64 * s) q hd) (part (n := base) (r := 0) (o := 64 * s) k hp)
          (head (n := base) (s := s) (r := 0) v hw) r j) e = entry q k v r i := by
  have ei : i = ⟨base + j, by omega⟩ := Fin.ext hi
  have es : (⟨r / 64, by omega⟩ : Fin 2) = ⟨s, hs⟩ := Fin.ext (by simp only []; omega)
  have ee : (⟨r % 64, by omega⟩ : Fin 64) = e := Fin.ext (by simp only []; omega)
  rw [entry, es, ee, ei, funext (mix_split hb hs q k v hd hp hv hw j)]

/-- The entry in the first tile, which has no earlier stretch. -/
theorem entry_first {s : ℕ} (hs : s < 2) (q k : Vec Ideal S2048x128 .f32)
    (v : Vec Ideal S2x72x2048 .bf16) (hd) (hv) (e : Fin 64) (j : Fin 512) (r : Fin 128) (i : Fin 2048)
    (hr : (r : ℕ) = 64 * s + e) (hi : (i : ℕ) = 0 + j) :
    ratio (fun r =>
      diag (part (n := 512) (r := 0) (o := 64 * s) q hd) (part (n := 512) (r := 0) (o := 64 * s) k hd)
          (head (n := 512) (s := s) (r := 0) v hv) r j) e = entry q k v r i := by
  rw [← entry_later (base := 0) (by omega) hs q k v hd
    (fun a => by match a with | ⟨0, _⟩ => exact Nat.zero_le _ | ⟨1, _⟩ => exact hd 1) hv
    (fun a => by
      match a with
      | ⟨0, _⟩ => exact hv 0
      | ⟨1, _⟩ => exact hv 1
      | ⟨2, _⟩ => exact Nat.zero_le _) e j r i hr hi]
  simp [past]

/-- A tile agrees with a value wherever it holds the index, coordinate by coordinate. -/
theorem tileAt {o p : ℕ} (w : (⟨3, ![1, 64, 512]⟩ : Shape).Idx → EReal) (r : Fin 128) (i : Fin 2048) (z : EReal)
    (h : ∀ (e : Fin 64) (j : Fin 512), (r : ℕ) = o + e → (i : ℕ) = p + j → w (ix3 0 e j) = z) :
    View.TileAt (Val := Elt Ideal) (S := S1x128x2048) (e := .bf16) (ix3 0 r i) ![0, o, p] ![1, 64, 512] w z := by
  intro x hx
  obtain ⟨a, e, j, rfl⟩ : ∃ (a : Fin 1) (e : Fin 64) (j : Fin 512), x = ix3 a e j := ⟨_, _, _, eq_ix3 x⟩
  obtain rfl : a = 0 := Subsingleton.elim _ _
  exact h e j (hx 1) (hx 2)

/-- The eight tiles are the block of entries. -/
theorem tiles_apply (q k : Vec Ideal S2048x128 .f32) (v : Vec Ideal S2x72x2048 .bf16) (r : Fin 128) (i : Fin 2048) :
    View.canon (tiles q k v) (ix3 0 r i) = entry q k v r i := by
  refine View.canon_eq_of_allAt _ _ _ (View.cover_of_tiled_head _ _ _ rfl _) ?_
  refine View.allAt_cons_unit _ _ _ _ _ (tileAt _ r i _ fun e j hr hi =>
    (fourth1 ..).trans (entry_later (base := 1536) (s := 1) (by omega) (by omega) q k v _ _ _ _ e j r i hr hi)) ?_
  refine View.allAt_cons_unit _ _ _ _ _ (tileAt _ r i _ fun e j hr hi =>
    (fourth0 ..).trans (entry_later (base := 1536) (s := 0) (by omega) (by omega) q k v _ _ _ _ e j r i hr hi)) ?_
  refine View.allAt_cons_unit _ _ _ _ _ (tileAt _ r i _ fun e j hr hi =>
    (third1 ..).trans (entry_later (base := 1024) (s := 1) (by omega) (by omega) q k v _ _ _ _ e j r i hr hi)) ?_
  refine View.allAt_cons_unit _ _ _ _ _ (tileAt _ r i _ fun e j hr hi =>
    (third0 ..).trans (entry_later (base := 1024) (s := 0) (by omega) (by omega) q k v _ _ _ _ e j r i hr hi)) ?_
  refine View.allAt_cons_unit _ _ _ _ _ (tileAt _ r i _ fun e j hr hi =>
    (second1 ..).trans (entry_later (base := 512) (s := 1) (by omega) (by omega) q k v _ _ _ _ e j r i hr hi)) ?_
  refine View.allAt_cons_unit _ _ _ _ _ (tileAt _ r i _ fun e j hr hi =>
    (second0 ..).trans (entry_later (base := 512) (s := 0) (by omega) (by omega) q k v _ _ _ _ e j r i hr hi)) ?_
  refine View.allAt_cons_unit _ _ _ _ _ (tileAt _ r i _ fun e j hr hi =>
    (first1 ..).trans (entry_first (s := 1) (by omega) q k v _ _ e j r i hr hi)) ?_
  exact View.allAt_cons_unit _ _ _ _ _ (tileAt _ r i _ fun e j hr hi =>
    (first0 ..).trans (entry_first (s := 0) (by omega) q k v _ _ e j r i hr hi)) (View.allAt_nil _ _)

end Cert.KernelIdeal.Block
-- ==== Proof.Arrays.lean ====
module
public import proofs.«01_k».proof.Proof.Block

/-! # What the two regions leave in their result arrays

Each result array, index by index, from the arrays the region reads. -/

@[expose] public section
noncomputable section

namespace Cert.KernelIdeal.Arrays

open Cert.KernelIdeal Cert.KernelIdeal.Gen
open Idealize.ShloMosaic Idealize.ShloMosaic.TcCoe Idealize.ShloMosaic.Pointwise
open Idealize.SL.Sem Tile Block

/-! ## One step's scratch contents, element by element -/

/-- A load of 128 of the projected columns. -/
theorem strip_apply {o : ℕ} (x : Vec Ideal S2048x384 .f32) (h : ∀ a, ![0, o] a + ![2048, 128] a ≤ S2048x384.size a)
    (i : Fin 2048) (j : Fin 128) (ho : o + j < 384) :
    View.ld x (Rect.unit ![0, o] ![2048, 128] h) (ix2 i j) = x (ix2 i ⟨o + j, ho⟩) := by
  refine View.ld_unit_apply_of _ _ _ _ _ _ fun a => ?_
  match a with
  | ⟨0, _⟩ => exact (Nat.zero_add _).symm
  | ⟨1, _⟩ => rfl

/-- A rectangle of the value scratch holds the indices within its bounds. -/
theorem mem_rows {s₀ r₀ n : ℕ} (h : ∀ a, ![s₀, r₀, 0] a + ![1, n, 2048] a ≤ S2x72x2048.size a) (s : Fin 2) (r : Fin 72)
    (i : Fin 2048) (hs : (s : ℕ) = s₀) (h0 : r₀ ≤ (r : ℕ)) (h1 : (r : ℕ) < r₀ + n) :
    ix3 s r i ∈ (Rect.unit (s := S2x72x2048) ![s₀, r₀, 0] ![1, n, 2048] h).set := by
  rw [Rect.mem_set_unit]
  intro a
  match a with
  | ⟨0, _⟩ => exact ⟨hs.ge, by show (s : ℕ) < s₀ + 1; omega⟩
  | ⟨1, _⟩ => exact ⟨h0, h1⟩
  | ⟨2, _⟩ => exact ⟨Nat.zero_le _, by show (i : ℕ) < 0 + 2048; omega⟩

/-- A stored stretch of value rows agrees with a value wherever it holds the index. -/
theorem rowsAt {s₀ r₀ n : ℕ} (w : (⟨3, ![1, n, 2048]⟩ : Shape).Idx → EReal) (s : Fin 2) (r : Fin 72) (i : Fin 2048) (z : EReal)
    (h : ∀ e : Fin n, (s : ℕ) = s₀ → (r : ℕ) = r₀ + e → w (ix3 0 e i) = z) :
    View.TileAt (Val := Elt Ideal) (S := S2x72x2048) (e := .bf16) (ix3 s r i) ![s₀, r₀, 0] ![1, n, 2048] w z := by
  intro x hx
  obtain ⟨a, e, j, rfl⟩ : ∃ (a : Fin 1) (e : Fin n) (j : Fin 2048), x = ix3 a e j := ⟨_, _, _, eq_ix3 x⟩
  obtain rfl : a = 0 := Subsingleton.elim _ _
  obtain rfl : i = j := Fin.ext ((hx 2).trans (Nat.zero_add _))
  exact h e (hx 0) (hx 1)

/-- The value rows of a head and then its rows of ones. -/
theorem values_apply (x : Vec Ideal S2048x384 .f32) (s : Fin 2) (r : Fin 72) (i : Fin 2048) :
    values x (ix3 s r i) =
      if h : (r : ℕ) < 64 then x (ix2 i ⟨256 + (64 * s + r), by omega⟩) else 1 := by
  refine View.canon_eq_of_allAt _ _ _ ?_ ?_
  · rcases (by omega : (s : ℕ) = 0 ∨ (s : ℕ) = 1) with hs | hs <;> by_cases h : (r : ℕ) < 64
    · exact ⟨_, .tail _ (.tail _ (.tail _ (.head _))), mem_rows (by decide) s r i hs (Nat.zero_le _) (by omega)⟩
    · exact ⟨_, .tail _ (.head _), mem_rows (by decide) s r i hs (by omega) (by omega)⟩
    · exact ⟨_, .tail _ (.tail _ (.head _)), mem_rows (by decide) s r i hs (Nat.zero_le _) (by omega)⟩
    · exact ⟨_, .head _, mem_rows (by decide) s r i hs (by omega) (by omega)⟩
  · refine View.allAt_cons_unit _ _ _ _ _ (rowsAt _ s r i _ fun e hs hr => ?_) ?_
    · rw [dif_neg (by omega)]; exact ones1_apply ..
    refine View.allAt_cons_unit _ _ _ _ _ (rowsAt _ s r i _ fun e hs hr => ?_) ?_
    · rw [dif_neg (by omega)]; exact ones0_apply ..
    refine View.allAt_cons_unit _ _ _ _ _ (rowsAt _ s r i _ fun e hs hr => ?_) ?_
    · rw [dif_pos (by omega), values1_apply, strip_apply _ _ _ _ (by simp only []; omega)]
      exact congrArg (fun k => x (ix2 i k)) (Fin.ext (by simp only []; omega))
    refine View.allAt_cons_unit _ _ _ _ _ (rowsAt _ s r i _ fun e hs hr => ?_) (View.allAt_nil _ _)
    · rw [dif_pos (by omega), values0_apply, strip_apply _ _ _ _ (by simp only []; omega)]
      exact congrArg (fun k => x (ix2 i k)) (Fin.ext (by simp only []; omega))

variable (V : (c : Dev nD) → (b : Ref sig .tc) → Buf (Elt Ideal) ((c : Thread nD τ).loc b)) (c : Dev nD)

/-! ## The first region -/

/-- The blocks at point `t`: batch `t / 8`, head pair `t % 8`. -/
theorem index0 : ∀ t : Fin grid0.N,
    (win0_0.index t 0 = t.val / 8 ∧ win0_0.index t 1 = 0 ∧ win0_0.index t 2 = 0) ∧
    (win0_1.index t 0 = t.val % 8 ∧ win0_1.index t 1 = 0 ∧ win0_1.index t 2 = 0) ∧
    (win0_2.index t 0 = 0 ∧ win0_2.index t 1 = 0) ∧ (win0_3.index t 0 = 0 ∧ win0_3.index t 1 = 0) ∧
    (win0_4.index t 0 = t.val % 8 ∧ win0_4.index t 1 = 0 ∧ win0_4.index t 2 = 0) ∧
    (win0_5.index t 0 = t.val / 8 ∧ win0_5.index t 1 = t.val % 8 ∧ win0_5.index t 2 = 0) := by decide +kernel

/-- The blocks at point `t` of the second region: batch `t / 2`, half `t % 2` of the positions. -/
theorem index1 : ∀ t : Fin grid1.N,
    (win1_0.index t 0 = t.val / 2 ∧ win1_0.index t 1 = 0 ∧ win1_0.index t 2 = t.val % 2) ∧
    (win1_1.index t 0 = 0 ∧ win1_1.index t 1 = 0) ∧
    (win1_2.index t 0 = t.val / 2 ∧ win1_2.index t 1 = t.val % 2 ∧ win1_2.index t 2 = 0) := by decide +kernel

/-- The point of a batch and a head pair. -/
abbrev point0 (b : Fin 2) (h : Fin 8) : Fin cfg0.N := ⟨8 * b + h, by show _ < grid0.N; rw [N_0]; omega⟩

/-- The point of a batch and a half of the positions. -/
abbrev point1 (b p : Fin 2) : Fin cfg1.N := ⟨2 * b + p, by show _ < grid1.N; rw [N_1]; omega⟩

theorem x_block (b : Fin 2) (h : Fin 8) (i : Fin 2048) (d : Fin 1024) :
    (iblk0 V c 0 (point0 b h) : S1x2048x1024.Idx → EReal) (ix3 0 i d) = (V c main_arg0 : S2x2048x1024.Idx → EReal) (ix3 b i d) := by
  obtain ⟨⟨e0, e1, e2⟩, _⟩ := index0 (point0 b h)
  unfold iblk0
  rw [View.read_apply]
  show (V c main_arg0 : S2x2048x1024.Idx → EReal) _ = _
  congr 1; funext a; apply Fin.ext
  match a with
  | ⟨0, _⟩ => show win0_0.index (point0 b h) 0 * 1 + 1 * 0 = (b : ℕ); rw [e0]; simp only []; omega
  | ⟨1, _⟩ => show win0_0.index (point0 b h) 1 * 2048 + 1 * (i : ℕ) = i; rw [e1]; omega
  | ⟨2, _⟩ => show win0_0.index (point0 b h) 2 * 1024 + 1 * (d : ℕ) = d; rw [e2]; omega

theorem w_block (b : Fin 2) (h : Fin 8) (d : Fin 1024) (j : Fin 384) :
    (iblk0 V c 1 (point0 b h) : S1x1024x384.Idx → EReal) (ix3 0 d j) = (V c main_v57 : S8x1024x384.Idx → EReal) (ix3 h d j) := by
  obtain ⟨_, ⟨e0, e1, e2⟩, _⟩ := index0 (point0 b h)
  unfold iblk0
  rw [View.read_apply]
  show (V c main_v57 : S8x1024x384.Idx → EReal) _ = _
  congr 1; funext a; apply Fin.ext
  match a with
  | ⟨0, _⟩ => show win0_1.index (point0 b h) 0 * 1 + 1 * 0 = (h : ℕ); rw [e0]; simp only []; omega
  | ⟨1, _⟩ => show win0_1.index (point0 b h) 1 * 1024 + 1 * (d : ℕ) = d; rw [e1]; omega
  | ⟨2, _⟩ => show win0_1.index (point0 b h) 2 * 384 + 1 * (j : ℕ) = j; rw [e2]; omega

theorem cos_block (b : Fin 2) (h : Fin 8) (i : Fin 2048) (j : Fin 128) :
    (iblk0 V c 2 (point0 b h) : S2048x128.Idx → EReal) (ix2 i j) = (V c main_v77 : S2048x128.Idx → EReal) (ix2 i j) := by
  obtain ⟨_, _, ⟨e0, e1⟩, _⟩ := index0 (point0 b h)
  unfold iblk0
  rw [View.read_apply]
  show (V c main_v77 : S2048x128.Idx → EReal) _ = _
  congr 1; funext a; apply Fin.ext
  match a with
  | ⟨0, _⟩ => show win0_2.index (point0 b h) 0 * 2048 + 1 * (i : ℕ) = i; rw [e0]; omega
  | ⟨1, _⟩ => show win0_2.index (point0 b h) 1 * 128 + 1 * (j : ℕ) = j; rw [e1]; omega

theorem sin_block (b : Fin 2) (h : Fin 8) (i : Fin 2048) (j : Fin 128) :
    (iblk0 V c 3 (point0 b h) : S2048x128.Idx → EReal) (ix2 i j) = (V c main_v82 : S2048x128.Idx → EReal) (ix2 i j) := by
  obtain ⟨_, _, _, ⟨e0, e1⟩, _⟩ := index0 (point0 b h)
  unfold iblk0
  rw [View.read_apply]
  show (V c main_v82 : S2048x128.Idx → EReal) _ = _
  congr 1; funext a; apply Fin.ext
  match a with
  | ⟨0, _⟩ => show win0_3.index (point0 b h) 0 * 2048 + 1 * (i : ℕ) = i; rw [e0]; omega
  | ⟨1, _⟩ => show win0_3.index (point0 b h) 1 * 128 + 1 * (j : ℕ) = j; rw [e1]; omega

theorem scale_block (b : Fin 2) (h : Fin 8) (j : Fin 128) :
    (iblk0 V c 4 (point0 b h) : S1x1x128.Idx → EReal) (ix3 0 0 j) = (V c main_v85 : S8x1x128.Idx → EReal) (ix3 h 0 j) := by
  obtain ⟨_, _, _, _, ⟨e0, e1, e2⟩, _⟩ := index0 (point0 b h)
  unfold iblk0
  rw [View.read_apply]
  show (V c main_v85 : S8x1x128.Idx → EReal) _ = _
  congr 1; funext a; apply Fin.ext
  match a with
  | ⟨0, _⟩ => show win0_4.index (point0 b h) 0 * 1 + 1 * 0 = (h : ℕ); rw [e0]; simp only []; omega
  | ⟨1, _⟩ => show win0_4.index (point0 b h) 1 * 1 + 1 * 0 = 0; rw [e1]
  | ⟨2, _⟩ => show win0_4.index (point0 b h) 2 * 128 + 1 * (j : ℕ) = j; rw [e2]; omega

/-- An element of the first region's result, from what the point of its head pair leaves in the output block. -/
def headsAt (b : Fin 2) (d : Fin 1024) (i : Fin 2048) : EReal :=
  (outsAt0 V c (point0 b ⟨(d : ℕ) / 128, by omega⟩) : S1x128x2048.Idx → EReal) (ix3 0 ⟨(d : ℕ) % 128, by omega⟩ i)

/-- The first region's result array, from what its points leave in the output block. -/
def heads : S2x1024x2048.Idx → EReal := fun y => headsAt V c (y 0) (y 1) (y 2)

/-- What a point leaves in the output block is its part of that array. -/
theorem heads_at (t : Fin cfg0.N) (r : Fin 128) (i : Fin 2048) :
    (outsAt0 V c t : S1x128x2048.Idx → EReal) (ix3 0 r i) =
      heads V c (ix3 (⟨t.val / 8, by have : t.val < 16 := N_0 ▸ t.isLt; omega⟩ : Fin 2) (⟨128 * (t.val % 8) + r, by omega⟩ : Fin 1024) i) := by
  have ht : t.val < 16 := N_0 ▸ t.isLt
  have et : point0 ⟨t.val / 8, by omega⟩ ⟨(128 * (t.val % 8) + r) / 128, by omega⟩ = t := Fin.ext (by simp only []; omega)
  have er : (⟨(128 * (t.val % 8) + r) % 128, by omega⟩ : Fin 128) = r := Fin.ext (by simp only []; omega)
  show _ = headsAt V c ⟨t.val / 8, by omega⟩ ⟨128 * (t.val % 8) + r, by omega⟩ i
  unfold headsAt
  simp only [et, er]

attribute [local irreducible] outsAt0 out1_2

/-- Each write-back writes its block of it. -/
theorem heads_flushed (t : Fin cfg0.N) :
    (dat0 V c).flushed 5 t = ((cfg0.win 5).blk t).view.read (Elt Ideal) (heads V c) := by
  have ht : t.val < 16 := N_0 ▸ t.isLt
  obtain ⟨_, _, _, _, _, e0, e1, e2⟩ := index0 t
  show (cfg0.win 5).cut (grid0.coords t) ((dat0 V c).after 5 t) = _
  rw [after0_5]
  funext x
  obtain ⟨a, r, i, rfl⟩ : ∃ (a : Fin 1) (r : Fin 128) (i : Fin 2048), x = ix3 a r i := ⟨_, _, _, eq_ix3 x⟩
  obtain rfl : a = 0 := Subsingleton.elim _ _
  rw [View.read_apply]
  have key : ((cfg0.win 5).blk t).view.emb (ix3 (0 : Fin 1) r i) =
      ix3 (⟨t.val / 8, by omega⟩ : Fin 2) (⟨128 * (t.val % 8) + r, by omega⟩ : Fin 1024) i := by
    funext a; apply Fin.ext
    match a with
    | ⟨0, _⟩ => show win0_5.index t 0 * 1 + 1 * 0 = t.val / 8; rw [e0]; omega
    | ⟨1, _⟩ => show win0_5.index t 1 * 128 + 1 * (r : ℕ) = 128 * (t.val % 8) + r; rw [e1]; omega
    | ⟨2, _⟩ => show win0_5.index t 2 * 2048 + 1 * (i : ℕ) = i; rw [e2]; omega
  rw [key]
  exact heads_at V c t r i

/-- The first region's result array after the run. -/
theorem arr0 : ((dat0 V c).arrAt 5 cfg0.N : S2x1024x2048.Idx → EReal) = heads V c :=
  (dat0 V c).arrAt_eq_of_cover 5 (heads V c) (fun t _ => heads_flushed V c t) fun y => by
    have h0 : (y 0 : ℕ) < 2 := (y 0).isLt
    have h1 : (y 1 : ℕ) < 1024 := (y 1).isLt
    have h2 : (y 2 : ℕ) < 2048 := (y 2).isLt
    obtain ⟨p, hp⟩ : ∃ p, p = point0 ⟨y 0, h0⟩ ⟨(y 1 : ℕ) / 128, by omega⟩ := ⟨_, rfl⟩
    have pv : (p : ℕ) = 8 * (y 0 : ℕ) + (y 1 : ℕ) / 128 := by rw [hp]
    refine ⟨p, flush0_5 _, ?_⟩
    obtain ⟨_, _, _, _, _, e0, e1, e2⟩ := index0 p
    show (y : S2x1024x2048.Idx) ∈ ((View.whole main_v86).slice (win0_5.rect p)).set
    rw [View.set_slice_whole, Rect.mem_set_unit]
    intro a
    match a with
    | ⟨0, _⟩ => show win0_5.index p 0 * 1 ≤ (y 0 : ℕ) ∧ (y 0 : ℕ) < win0_5.index p 0 * 1 + 1
                rw [e0]; omega
    | ⟨1, _⟩ => show win0_5.index p 1 * 128 ≤ (y 1 : ℕ) ∧ (y 1 : ℕ) < win0_5.index p 1 * 128 + 128
                rw [e1]; omega
    | ⟨2, _⟩ => show win0_5.index p 2 * 2048 ≤ (y 2 : ℕ) ∧ (y 2 : ℕ) < win0_5.index p 2 * 2048 + 2048
                rw [e2]; omega

/-! ## The second region -/

theorem t_block (b p : Fin 2) (d j : Fin 1024) :
    (iblk1 V c 0 (point1 b p) : S1x1024x1024.Idx → EReal) (ix3 0 d j) =
      (V c main_v86 : S2x1024x2048.Idx → EReal) (ix3 b d ⟨1024 * p + j, by omega⟩) := by
  obtain ⟨⟨e0, e1, e2⟩, _⟩ := index1 (point1 b p)
  unfold iblk1
  rw [View.read_apply]
  show (V c main_v86 : S2x1024x2048.Idx → EReal) _ = _
  congr 1; funext a; apply Fin.ext
  match a with
  | ⟨0, _⟩ => show win1_0.index (point1 b p) 0 * 1 + 1 * 0 = (b : ℕ); rw [e0]; simp only []; omega
  | ⟨1, _⟩ => show win1_0.index (point1 b p) 1 * 1024 + 1 * (d : ℕ) = d; rw [e1]; omega
  | ⟨2, _⟩ => show win1_0.index (point1 b p) 2 * 1024 + 1 * (j : ℕ) = 1024 * p + j; rw [e2]; simp only []; omega

theorem wo_block (b p : Fin 2) (d o : Fin 1024) :
    (iblk1 V c 1 (point1 b p) : S1024x1024.Idx → EReal) (ix2 d o) = (V c main_v87 : S1024x1024.Idx → EReal) (ix2 d o) := by
  obtain ⟨_, ⟨e0, e1⟩, _⟩ := index1 (point1 b p)
  unfold iblk1
  rw [View.read_apply]
  show (V c main_v87 : S1024x1024.Idx → EReal) _ = _
  congr 1; funext a; apply Fin.ext
  match a with
  | ⟨0, _⟩ => show win1_1.index (point1 b p) 0 * 1024 + 1 * (d : ℕ) = d; rw [e0]; omega
  | ⟨1, _⟩ => show win1_1.index (point1 b p) 1 * 1024 + 1 * (o : ℕ) = o; rw [e1]; omega

theorem out_apply (x : Vec Ideal S1x1024x1024 .bf16) (w : Vec Ideal S1024x1024 .f32) (j o : Fin 1024) :
    out1_2 x w (ix3 0 j o) = ∑ d : Fin 1024, x (ix3 0 d j) * w (ix2 d o) := by
  unfold out1_2
  rw [View.canon_cons_unit_lit _ _ _ (by decide), View.ld_unit_lit _ _ (by decide), View.ld_unit_lit _ _ (by decide)]
  pointwise [k1_pay1]

/-- The product of a transposed batch of rows and a weight matrix. -/
def product (x : S2x1024x2048.Idx → EReal) (w : S1024x1024.Idx → EReal) : S2x2048x1024.Idx → EReal := fun y =>
  ∑ d : Fin 1024, x (ix3 (y 0 : Fin 2) d (y 1 : Fin 2048)) * w (ix2 d (y 2 : Fin 1024))

theorem product_apply (x : S2x1024x2048.Idx → EReal) (w : S1024x1024.Idx → EReal) (b : Fin 2) (i : Fin 2048) (o : Fin 1024) :
    product x w (ix3 b i o) = ∑ d : Fin 1024, x (ix3 b d i) * w (ix2 d o) := rfl

/-- The second region's result array, projected from the arrays the region reads. -/
def projected : S2x2048x1024.Idx → EReal := product (V c main_v86) (V c main_v87)

/-- What a point leaves in the output block is its part of that array. -/
theorem projected_at (t : Fin cfg1.N) (j o : Fin 1024) :
    out1_2 (iblk1 V c 0 t) (iblk1 V c 1 t) (ix3 0 j o) =
      projected V c (ix3 (⟨t.val / 2, by have : t.val < 4 := N_1 ▸ t.isLt; omega⟩ : Fin 2) (⟨1024 * (t.val % 2) + j, by omega⟩ : Fin 2048) o) := by
  have ht : t.val < 4 := N_1 ▸ t.isLt
  obtain ⟨p, q, e⟩ : ∃ p q : Fin 2, t = point1 p q :=
    ⟨⟨t.val / 2, by omega⟩, ⟨t.val % 2, by omega⟩, Fin.ext (by simp only []; omega)⟩
  subst e
  have ep : (⟨(point1 p q).val / 2, by omega⟩ : Fin 2) = p := Fin.ext (by simp only []; omega)
  have eq : (⟨1024 * ((point1 p q).val % 2) + j, by omega⟩ : Fin 2048) = ⟨1024 * q + j, by omega⟩ :=
    Fin.ext (by simp only []; omega)
  rw [ep, eq]
  refine (out_apply _ _ j o).trans ?_
  unfold projected
  rw [product_apply]
  refine Finset.sum_congr rfl fun d _ => ?_
  rw [t_block, wo_block]

/-- Each write-back writes its block of it. -/
theorem projected_flushed (t : Fin cfg1.N) :
    (dat1 V c).flushed 2 t = ((cfg1.win 2).blk t).view.read (Elt Ideal) (projected V c) := by
  have ht : t.val < 4 := N_1 ▸ t.isLt
  obtain ⟨_, _, e0, e1, e2⟩ := index1 t
  show (cfg1.win 2).cut (grid1.coords t) ((dat1 V c).after 2 t) = _
  rw [after1_2]
  funext x
  obtain ⟨a, j, o, rfl⟩ : ∃ (a : Fin 1) (j o : Fin 1024), x = ix3 a j o := ⟨_, _, _, eq_ix3 x⟩
  obtain rfl : a = 0 := Subsingleton.elim _ _
  rw [View.read_apply]
  have key : ((cfg1.win 2).blk t).view.emb (ix3 (0 : Fin 1) j o) =
      ix3 (⟨t.val / 2, by omega⟩ : Fin 2) (⟨1024 * (t.val % 2) + j, by omega⟩ : Fin 2048) o := by
    funext a; apply Fin.ext
    match a with
    | ⟨0, _⟩ => show win1_2.index t 0 * 1 + 1 * 0 = t.val / 2; rw [e0]; omega
    | ⟨1, _⟩ => show win1_2.index t 1 * 1024 + 1 * (j : ℕ) = 1024 * (t.val % 2) + j; rw [e1]; omega
    | ⟨2, _⟩ => show win1_2.index t 2 * 1024 + 1 * (o : ℕ) = o; rw [e2]; omega
  rw [key]
  exact projected_at V c t j o

/-- The second region's result array after the run. -/
theorem arr1 : ((dat1 V c).arrAt 2 cfg1.N : S2x2048x1024.Idx → EReal) = projected V c :=
  (dat1 V c).arrAt_eq_of_cover 2 (projected V c) (fun t _ => projected_flushed V c t) fun y => by
    have h0 : (y 0 : ℕ) < 2 := (y 0).isLt
    have h1 : (y 1 : ℕ) < 2048 := (y 1).isLt
    have h2 : (y 2 : ℕ) < 1024 := (y 2).isLt
    obtain ⟨p, hp⟩ : ∃ p, p = point1 ⟨y 0, h0⟩ ⟨(y 1 : ℕ) / 1024, by omega⟩ := ⟨_, rfl⟩
    have pv : (p : ℕ) = 2 * (y 0 : ℕ) + (y 1 : ℕ) / 1024 := by rw [hp]
    refine ⟨p, flush1_2 _, ?_⟩
    obtain ⟨_, _, e0, e1, e2⟩ := index1 p
    show (y : S2x2048x1024.Idx) ∈ ((View.whole main_v88).slice (win1_2.rect p)).set
    rw [View.set_slice_whole, Rect.mem_set_unit]
    intro a
    match a with
    | ⟨0, _⟩ => show win1_2.index p 0 * 1 ≤ (y 0 : ℕ) ∧ (y 0 : ℕ) < win1_2.index p 0 * 1 + 1
                rw [e0]; omega
    | ⟨1, _⟩ => show win1_2.index p 1 * 1024 ≤ (y 1 : ℕ) ∧ (y 1 : ℕ) < win1_2.index p 1 * 1024 + 1024
                rw [e1]; omega
    | ⟨2, _⟩ => show win1_2.index p 2 * 1024 ≤ (y 2 : ℕ) ∧ (y 2 : ℕ) < win1_2.index p 2 * 1024 + 1024
                rw [e2]; omega

end Cert.KernelIdeal.Arrays
-- ==== Proof.Launch.lean ====
module
public import proofs.«01_k».proof.Proof.Arrays

/-! # The kernel program run: its result and its arguments

Every run of the program ends with the result array as the second region leaves it and the arguments as launched. -/

@[expose] public section
noncomputable section

namespace Cert.KernelIdeal.Launch

open Cert.KernelIdeal Cert.KernelIdeal.Gen Cert.KernelIdeal.Arrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each unscoped buffer at the contents the last region leaves. -/
theorem ends : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hnothing, -, Hgen, -⟩, -⟩
      imodintro
      isplitl [Hbufs]; · iexact Hbufs
      isplitl [Hgen]; · iexists _; iexact Hgen
      iexists ∅; iexact Hnothing)
    (QY := fun c s => ∀ b ∈ Pipeline.ucRefs τ sig, s.mem (((c : Thread nD τ)).1, b) = W4 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h _ => h)

/-- The weights as the second region reads them. -/
abbrev weights (c : Dev nD) : S1024x1024.Idx → EReal := W3 m ρ c (Proc.devRef .tc main_v87)

/-- The result: the first region's array projected by the transposed output weights. -/
def result (c : Dev nD) : S2x2048x1024.Idx → EReal := product (heads (V1 m ρ) c) (weights m ρ c)

/-- What the last region leaves in the result array. -/
theorem last (c : Dev nD) : (W4 m ρ c (Proc.devRef .tc main_v88) : S2x2048x1024.Idx → EReal) = result m ρ c := by
  have e : (V3 m ρ c main_v86 : S2x1024x2048.Idx → EReal) = heads (V1 m ρ) c :=
    ((W3_of m ρ c main_v86 (by decide)).trans (W2_arr m ρ c 5)).trans (arr0 (V1 m ρ) c)
  refine ((W4_arr m ρ c 2).trans (arr1 (V3 m ρ) c)).trans ?_
  unfold projected result
  rw [e]

/-- The run, read: the result array at the projected heads, the arguments unchanged. -/
theorem run : θ_run defs (onTc (τ := τ) (main (F := Ideal))) ⟨m, fun _ => 0, ρ⟩ (fun r => ∀ c : Dev nD,
      r.2.mem ((c.tc : Thread nD τ).loc main_v88) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v88 (by decide))).trans (last m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (ends m ρ)

end Cert.KernelIdeal.Launch
-- ==== Proof.Spec.lean ====
module
public import proofs.«01_k».proof.Proof.Attend
public import Idealize.ShloMosaic.Lib.Pointwise

/-! # The function that both programs compute

From the inputs, positions, projection weights, output weights and temperatures, as arrays of extended reals. -/

@[expose] public section
noncomputable section

namespace Cert.Spec

open Idealize.ShloMosaic Idealize.ShloMosaic.Pointwise Cert.Attend

/-- The rotation angle of pair `f` at a position. -/
def theta (p : BitVec 32) (f : ℕ) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 f)))
      (Ideal.ofBits .f32 0x42800000#32))

variable (x : (⟨3, ![2, 2048, 1024]⟩ : Shape).Idx → EReal) (p : (⟨1, ![2048]⟩ : Shape).Idx → BitVec 32)
  (w : (⟨2, ![3072, 1024]⟩ : Shape).Idx → EReal) (wo : (⟨2, ![1024, 1024]⟩ : Shape).Idx → EReal)
  (t : (⟨1, ![16]⟩ : Shape).Idx → EReal)

/-- Output `o` of the joint projection at a position. -/
def proj (b : Fin 2) (i : Fin 2048) (o : Fin 3072) : EReal := ∑ d : Fin 1024, x (ix3 b i d) * w (ix2 o d)

/-- A head's row of queries, keys or values, at offset 0, 1024 or 2048 of the projection. -/
def row (o : ℕ) (ho : o ≤ 2048) (b : Fin 2) (i : Fin 2048) (h : Fin 16) (e : Fin 64) : EReal :=
  proj x w b i ⟨o + (64 * h + e), by omega⟩

/-- A head's row, rotated by its position's angles. -/
def turn (o : ℕ) (ho : o ≤ 2048) (b : Fin 2) (i : Fin 2048) (h : Fin 16) : Fin 64 → EReal :=
  rot (fun f => Ideal.cos (theta (p (ix1 i)) f)) (fun f => Ideal.sin (theta (p (ix1 i)) f)) (row x w o ho b i h)

/-- The normalised query row. -/
def query (b : Fin 2) (i : Fin 2048) (h : Fin 16) (e : Fin 64) : EReal := hat (turn x p w 0 (by omega) b i h) e

/-- The normalised key row. -/
def key (b : Fin 2) (i : Fin 2048) (h : Fin 16) (e : Fin 64) : EReal := hat (turn x p w 1024 (by omega) b i h) e

theorem query_real (b : Fin 2) (i : Fin 2048) (h : Fin 16) (e : Fin 64) :
    query x p w b i h e = ((query x p w b i h e).toReal : EReal) := by
  obtain ⟨a, ha⟩ := hat_real (turn x p w 0 (by omega) b i h) e
  unfold query; rw [ha]; rfl

theorem key_real (b : Fin 2) (i : Fin 2048) (h : Fin 16) (e : Fin 64) :
    key x p w b i h e = ((key x p w b i h e).toReal : EReal) := by
  obtain ⟨a, ha⟩ := hat_real (turn x p w 1024 (by omega) b i h) e
  unfold key; rw [ha]; rfl

/-- The score of query position `i` against key position `k` in head `h`. -/
def sigma (b : Fin 2) (h : Fin 16) (i k : Fin 2048) : ℝ :=
  score (fun e => (query x p w b i h e).toReal) (fun e => (key x p w b k h e).toReal) (t (ix1 h)).toReal

/-- A head's output: the values under the causal weights, over the weights' total. -/
def attend (b : Fin 2) (h : Fin 16) (i : Fin 2048) (e : Fin 64) : EReal :=
  (∑ k, row x w 2048 (by omega) b k h e * ((wt (sigma x p w t b h i) i k : ℝ) : EReal)) *
    Ideal.div 1 (∑ k, ((wt (sigma x p w t b h i) i k : ℝ) : EReal))

/-- The result: the heads side by side, projected. -/
def out : (⟨3, ![2, 2048, 1024]⟩ : Shape).Idx → EReal := fun y =>
  ∑ d : Fin 1024, attend x p w t (y 0 : Fin 2) ⟨d / 64, by omega⟩ (y 1 : Fin 2048) ⟨d % 64, by omega⟩ *
    wo (ix2 (y 2 : Fin 1024) d)

theorem out_apply (b : Fin 2) (i : Fin 2048) (o : Fin 1024) : out x p w wo t (ix3 b i o) =
    ∑ d : Fin 1024, attend x p w t b ⟨d / 64, by omega⟩ i ⟨d % 64, by omega⟩ * wo (ix2 o d) := rfl

end Cert.Spec
-- ==== Proof.HostValues.lean ====
module
public import proofs.«01_k».proof.Proof.Gen.KernelIdeal.Frame
public import proofs.«01_k».proof.Proof.Spec
public import Idealize.ShloMosaic.Lib.StableHlo.ReadAt
public import Idealize.ShloMosaic.Lib.Pointwise

/-! # What the host operations around the two kernels leave, element by element -/

@[expose] public section
noncomputable section

namespace Cert.KernelIdeal.HostValues

open Cert.KernelIdeal Cert.KernelIdeal.Gen
open Idealize.ShloMosaic Idealize.ShloMosaic.TcCoe Idealize.ShloMosaic.Pointwise
open Idealize.SL.Sem Cert.Spec

variable (m : (ℓ : Loc nD τ sig) → Buf (Elt Ideal) ℓ) (ρ : Dev nD → PrngReg) (c : Dev nD)

/-- The cosine table. -/
theorem cos_at (i : Fin 2048) (j : Fin 128) :
    (W1 m ρ c (Proc.devRef .tc main_v77) : S2048x128.Idx → EReal) (ix2 i j) =
      Ideal.cos (theta ((m ((c : Thread nD τ).loc main_arg1) : S2048.Idx → BitVec 32) (ix1 i)) (j % 32)) := by
  unfold W1
  after_reads_at
  by_cases h : (j : ℕ) % 64 < 32
  · rw [dif_pos h]
    after_reads_at
    rw [show (j : ℕ) % 64 = j % 32 by omega]
    rfl
  · rw [dif_neg h]
    after_reads_at
    rw [show (j : ℕ) % 64 - 32 = j % 32 by omega]
    rfl

/-- The sine table, negated in the first half of each head's columns. -/
theorem sin_at (i : Fin 2048) (j : Fin 128) :
    (W1 m ρ c (Proc.devRef .tc main_v82) : S2048x128.Idx → EReal) (ix2 i j) =
      if (j : ℕ) % 64 < 32
      then -Ideal.sin (theta ((m ((c : Thread nD τ).loc main_arg1) : S2048.Idx → BitVec 32) (ix1 i)) (j % 32))
      else Ideal.sin (theta ((m ((c : Thread nD τ).loc main_arg1) : S2048.Idx → BitVec 32) (ix1 i)) (j % 32)) := by
  unfold W1
  after_reads_at
  by_cases h : (j : ℕ) % 64 < 32
  · rw [dif_pos h, if_pos h]
    after_reads_at
    rw [show (j : ℕ) % 64 = j % 32 by omega]
    rfl
  · rw [dif_neg h, if_neg h]
    after_reads_at
    rw [show (j : ℕ) % 64 - 32 = j % 32 by omega]
    rfl

/-- The temperatures, one per column of a head pair. -/
theorem garr_at (h : Fin 8) (j : Fin 128) :
    (W1 m ρ c (Proc.devRef .tc main_v85) : S8x1x128.Idx → EReal) (ix3 h 0 j) =
      (m ((c : Thread nD τ).loc main_arg4) : S16.Idx → EReal) (ix1 ⟨2 * h + j / 64, by omega⟩) := by
  unfold W1
  after_reads_at
  show (m ((c : Thread nD τ).loc main_arg4) : S16.Idx → EReal) _ = _
  congr 2
  apply Fin.ext
  simp only []
  omega

/-- The output weights, transposed. -/
theorem wo_at (d o : Fin 1024) :
    (W3 m ρ c (Proc.devRef .tc main_v87) : S1024x1024.Idx → EReal) (ix2 d o) =
      (m ((c : Thread nD τ).loc main_arg3) : S1024x1024.Idx → EReal) (ix2 o d) := by
  unfold W3
  after_reads_at
  rw [W2_args _ _ _ main_arg3 (by decide)]

/-- The row of the projection weights that column `j` of head pair `h`'s strip holds: the queries' rows, then the
    keys', both with each head's even rows first, then the values'. -/
def wrow (h : Fin 8) (j : Fin 384) : Fin 3072 :=
  ⟨if (j : ℕ) < 128 then 128 * h + (j / 64 * 64 + j % 32 * 2 + j / 32 % 2)
    else if (j : ℕ) < 256 then 1024 + 128 * h + ((j - 128) / 64 * 64 + (j - 128) % 32 * 2 + (j - 128) / 32 % 2)
    else 2048 + 128 * h + (j - 256), by have := j.isLt; have := h.isLt; split_ifs <;> omega⟩

set_option maxHeartbeats 4000000 in
/-- The weight strips handed to the attention kernel. -/
theorem w_at (h : Fin 8) (d : Fin 1024) (j : Fin 384) :
    (W1 m ρ c (Proc.devRef .tc main_v57) : S8x1024x384.Idx → EReal) (ix3 h d j) =
      (m ((c : Thread nD τ).loc main_arg2) : S3072x1024.Idx → EReal) (ix2 (wrow h j) d) := by
  have key (a b : Fin 3072) (e : (a : ℕ) = b) : (m ((c : Thread nD τ).loc main_arg2) : S3072x1024.Idx → EReal) (ix2 a d) =
      (m ((c : Thread nD τ).loc main_arg2) : S3072x1024.Idx → EReal) (ix2 b d) := by rw [Fin.ext e]
  unfold W1
  fin_cases h
  all_goals
    after_reads_at
    after_reads_at
    by_cases h1 : (j : ℕ) < 128
    · rw [dif_pos h1]
      after_reads_at
      refine key _ _ ?_
      simp only [wrow, if_pos h1]
      omega
    by_cases h2 : (j : ℕ) - 128 < 128
    · rw [dif_neg h1, dif_pos h2]
      after_reads_at
      refine key _ _ ?_
      simp only [wrow, if_neg h1, if_pos (show (j : ℕ) < 256 by omega)]
      omega
    · rw [dif_neg h1, dif_neg h2]
      after_reads_at
      refine key _ _ ?_
      simp only [wrow, if_neg h1, if_neg (show ¬ (j : ℕ) < 256 by omega)]
      omega

end Cert.KernelIdeal.HostValues
-- ==== Proof.Heads.lean ====
module
public import proofs.«01_k».proof.Proof.Launch
public import proofs.«01_k».proof.Proof.HostValues
public import proofs.«01_k».proof.Proof.Spec

/-! # The kernel's result is the specified function -/

@[expose] public section
noncomputable section

namespace Cert.KernelIdeal.Heads

open Cert.KernelIdeal Cert.KernelIdeal.Gen Cert.Attend
open Idealize.ShloMosaic Idealize.ShloMosaic.TcCoe Idealize.ShloMosaic.Pointwise
open Idealize.SL.Sem Tile Block Arrays

/-! ## One head of a pair -/

theorem hcol_val (s : Fin 2) (f : Fin 64) : ((hcol s f : Fin 128) : ℕ) = 64 * s + f := rfl

theorem unsplit_val (f : Fin 64) : ((unsplit f : Fin 64) : ℕ) = 2 * (f % 32) + f / 32 := by
  simp only [unsplit, Equiv.coe_fn_mk]
  by_cases h : (f : ℕ) < 32
  · rw [if_pos h]; simp only []; omega
  · rw [if_neg h]; simp only []; omega

theorem wrow_first (h : Fin 8) (j : Fin 384) (hj : (j : ℕ) < 128) :
    (HostValues.wrow h j : ℕ) = 128 * h + ((j : ℕ) / 64 * 64 + (j : ℕ) % 32 * 2 + (j : ℕ) / 32 % 2) := if_pos hj

theorem wrow_second (h : Fin 8) (j : Fin 384) (h1 : ¬ (j : ℕ) < 128) (h2 : (j : ℕ) < 256) :
    (HostValues.wrow h j : ℕ) =
      1024 + 128 * h + (((j : ℕ) - 128) / 64 * 64 + ((j : ℕ) - 128) % 32 * 2 + ((j : ℕ) - 128) / 32 % 2) :=
  (if_neg h1).trans (if_pos h2)

/-- A sum over the columns of one head of a pair. -/
theorem sum_head (s : Fin 2) (f : Fin 128 → EReal) (n : ℕ) (hn : n = s) :
    (∑ l : Fin 128, if (l : ℕ) / 64 = n then f l else 0) = ∑ k : Fin 64, f (hcol s k) := by
  subst hn
  rw [← Finset.sum_filter]
  symm
  refine Finset.sum_bij (fun k _ => hcol s k) (fun k _ => ?_) (fun a _ b _ h => ?_) (fun l hl => ?_) (fun _ _ => rfl)
  · simp only [Finset.mem_filter, Finset.mem_univ, true_and, hcol_val]; omega
  · have := Fin.ext_iff.mp h; simp only [hcol_val] at this; exact Fin.ext (by omega)
  · have h := (Finset.mem_filter.mp hl).2
    exact ⟨⟨(l : ℕ) - 64 * s, by omega⟩, Finset.mem_univ _, Fin.ext (by simp only [hcol_val]; omega)⟩

/-- One head of a rotated and normalised row in half-split order is the interleaved one reordered. -/
theorem unit_head (c sn x : Vec Ideal S2048x128 .f32) (i : Fin 2048) (s : Fin 2) (C S : Fin 32 → EReal) (u : Fin 64 → EReal)
    (hc : ∀ f : Fin 64, c (ix2 i (hcol s f)) = C ⟨f % 32, by omega⟩)
    (hs : ∀ f : Fin 64, sn (ix2 i (hcol s f)) = if (f : ℕ) < 32 then -S ⟨f % 32, by omega⟩ else S ⟨f % 32, by omega⟩)
    (hx : ∀ f : Fin 64, x (ix2 i (hcol s f)) = u (unsplit f)) (f : Fin 64) :
    Tile.unit c sn x i (hcol s f) = hat (rot C S u) (unsplit f) := by
  have ht (f : Fin 64) : turned c sn x i (hcol s f) = rot C S u (unsplit f) := by
    have ea : across (hcol s f) = hcol s ⟨(f + 32) % 64, by omega⟩ := Fin.ext (by simp only [across, hcol_val]; omega)
    rw [← rotSplit_eq]
    unfold turned rotSplit
    rw [ea, hc, hs, hx, hx]
  rw [← hat_unsplit]
  unfold Tile.unit hat
  rw [ht, sum_head s (fun l => turned c sn x i l * turned c sn x i l) _ (by simp only [hcol_val]; omega)]
  simp only [ht]

/-- The scale that turns a power of two into an exponential. -/
theorem log2e : (Named.named κ "log2e" 0x3FB8AA3B#32 : Ideal .f32) = (((Real.log 2)⁻¹ : ℝ) : EReal) :=
  IdealRules.named_const.ideal_named_scalar _ _ _ _ rfl

/-- A weighted row from real scores. -/
theorem mix_real (q k : Vec Ideal S2048x128 .f32) (v : Vec Ideal S2x72x2048 .bf16) (s : Fin 2) (i : Fin 2048) (r : Fin 72)
    (a : Fin 64 → ℝ) (b : Fin 2048 → Fin 64 → ℝ) (t : ℝ)
    (hq : ∀ f, q (ix2 i (hcol s f)) = (a (unsplit f) : EReal) * ((t : EReal) * (((Real.log 2)⁻¹ : ℝ) : EReal)))
    (hk : ∀ j f, k (ix2 j (hcol s f)) = (b j (unsplit f) : EReal)) :
    mix q k v s i r = ∑ j : Fin 2048, v (ix3 s r j) * ((wt (fun j => score a (b j) t) i j : ℝ) : EReal) := by
  unfold mix
  refine Finset.sum_congr rfl fun j _ => ?_
  congr 1
  simp only [hq, hk, score_kernel, exp2_scaled, wt]
  by_cases h : j ≤ i
  · rw [if_pos h, if_pos (show (j : ℕ) ≤ i from h)]
  · rw [if_neg h, if_neg (show ¬ (j : ℕ) ≤ i from h)]; rfl

/-! ## The first region's result -/

variable (m : (ℓ : Loc nD τ sig) → Buf (Elt Ideal) ℓ) (ρ : Dev nD → PrngReg) (c : Dev nD)

/-- The inputs. -/
abbrev inp : S2x2048x1024.Idx → EReal := m ((c : Thread nD τ).loc main_arg0)
/-- The positions. -/
abbrev pos : S2048.Idx → BitVec 32 := m ((c : Thread nD τ).loc main_arg1)
/-- The projection weights. -/
abbrev wqkv : S3072x1024.Idx → EReal := m ((c : Thread nD τ).loc main_arg2)
/-- The output weights. -/
abbrev wout : S1024x1024.Idx → EReal := m ((c : Thread nD τ).loc main_arg3)
/-- The temperatures. -/
abbrev temp : S16.Idx → EReal := m ((c : Thread nD τ).loc main_arg4)

/-- The projected columns of a step. -/
abbrev cols0 (b : Fin 2) (h : Fin 8) : Vec Ideal S2048x384 .f32 :=
  k0_pay4 (iblk0 (V1 m ρ) c 0 (point0 b h)) (iblk0 (V1 m ρ) c 1 (point0 b h))

theorem cols0_apply (b : Fin 2) (h : Fin 8) (i : Fin 2048) (j : Fin 384) :
    cols0 m ρ c b h (ix2 i j) = Spec.proj (inp m c) (wqkv m c) b i (HostValues.wrow h j) := by
  unfold cols0 Spec.proj
  rw [projected_apply]
  refine Finset.sum_congr rfl fun d _ => ?_
  rw [x_block, w_block]
  exact congrArg _ (HostValues.w_at m ρ c h d j)

/-- The head that half `s` of a pair is. -/
abbrev hd (h : Fin 8) (s : Fin 2) : Fin 16 := ⟨2 * h + s, by omega⟩

theorem keys_real (b : Fin 2) (h : Fin 8) (s : Fin 2) (i : Fin 2048) (f : Fin 64) :
    keys (iblk0 (V1 m ρ) c 2 (point0 b h)) (iblk0 (V1 m ρ) c 3 (point0 b h)) (cols0 m ρ c b h) (ix2 i (hcol s f)) =
      Spec.key (inp m c) (pos m c) (wqkv m c) b i (hd h s) (unsplit f) := by
  unfold keys Spec.key Spec.turn
  rw [keys_apply]
  refine unit_head _ _ _ _ _ _ _ _ (fun f => ?_) (fun f => ?_) (fun f => ?_) f
  · rw [cos_block]
    refine (HostValues.cos_at m ρ c i _).trans ?_
    rw [show ((hcol s f : Fin 128) : ℕ) % 32 = f % 32 by simp only [hcol_val]; omega]
  · rw [sin_block]
    refine (HostValues.sin_at m ρ c i _).trans ?_
    rw [show ((hcol s f : Fin 128) : ℕ) % 32 = f % 32 by simp only [hcol_val]; omega,
      show ((hcol s f : Fin 128) : ℕ) % 64 = f by simp only [hcol_val]; omega]
  · rw [strip_apply _ _ _ _ (by omega), cols0_apply]
    unfold Spec.row
    congr 1
    apply Fin.ext
    rw [wrow_second _ _ (by simp only [hcol_val]; omega) (by simp only [hcol_val]; omega)]
    simp only [unsplit_val, hcol_val]
    omega

theorem queries_real (b : Fin 2) (h : Fin 8) (s : Fin 2) (i : Fin 2048) (f : Fin 64) :
    queries (iblk0 (V1 m ρ) c 2 (point0 b h)) (iblk0 (V1 m ρ) c 3 (point0 b h)) (iblk0 (V1 m ρ) c 4 (point0 b h))
        (cols0 m ρ c b h) (ix2 i (hcol s f)) =
      Spec.query (inp m c) (pos m c) (wqkv m c) b i (hd h s) (unsplit f) *
        (temp m c (ix1 (hd h s)) * (((Real.log 2)⁻¹ : ℝ) : EReal)) := by
  unfold queries Spec.query Spec.turn
  rw [queries_apply, log2e]
  congr 1
  · refine unit_head _ _ _ _ _ _ _ _ (fun f => ?_) (fun f => ?_) (fun f => ?_) f
    · rw [cos_block]
      refine (HostValues.cos_at m ρ c i _).trans ?_
      rw [show ((hcol s f : Fin 128) : ℕ) % 32 = f % 32 by simp only [hcol_val]; omega]
    · rw [sin_block]
      refine (HostValues.sin_at m ρ c i _).trans ?_
      rw [show ((hcol s f : Fin 128) : ℕ) % 32 = f % 32 by simp only [hcol_val]; omega,
        show ((hcol s f : Fin 128) : ℕ) % 64 = f by simp only [hcol_val]; omega]
    · rw [strip_apply _ _ _ _ (by omega), cols0_apply]
      unfold Spec.row
      congr 1
      apply Fin.ext
      rw [wrow_first _ _ (by simp only [hcol_val]; omega)]
      simp only [unsplit_val, hcol_val]
      omega
  · rw [scale_block]
    congr 1
    refine (HostValues.garr_at m ρ c h _).trans ?_
    congr 2
    apply Fin.ext
    simp only [hcol_val]
    omega

/-- An element of a step's block is an element of the head's output. -/
theorem entry_eq (ht : ∀ h, ∃ t : ℝ, temp m c (ix1 h) = (t : EReal)) (b : Fin 2) (h : Fin 8) (s : Fin 2) (i : Fin 2048) (e : Fin 64) :
    ratio (mix
      (queries (iblk0 (V1 m ρ) c 2 (point0 b h)) (iblk0 (V1 m ρ) c 3 (point0 b h)) (iblk0 (V1 m ρ) c 4 (point0 b h)) (cols0 m ρ c b h))
      (keys (iblk0 (V1 m ρ) c 2 (point0 b h)) (iblk0 (V1 m ρ) c 3 (point0 b h)) (cols0 m ρ c b h))
      (values (cols0 m ρ c b h)) s i) e =
      Spec.attend (inp m c) (pos m c) (wqkv m c) (temp m c) b (hd h s) i e := by
  obtain ⟨t, htt⟩ := ht (hd h s)
  have hm (r : Fin 72) := mix_real
    (queries (iblk0 (V1 m ρ) c 2 (point0 b h)) (iblk0 (V1 m ρ) c 3 (point0 b h)) (iblk0 (V1 m ρ) c 4 (point0 b h)) (cols0 m ρ c b h))
    (keys (iblk0 (V1 m ρ) c 2 (point0 b h)) (iblk0 (V1 m ρ) c 3 (point0 b h)) (cols0 m ρ c b h))
    (values (cols0 m ρ c b h)) s i r
    (fun e => (Spec.query (inp m c) (pos m c) (wqkv m c) b i (hd h s) e).toReal)
    (fun j e => (Spec.key (inp m c) (pos m c) (wqkv m c) b j (hd h s) e).toReal) t
    (fun f => by rw [queries_real, htt, ← Spec.query_real])
    (fun j f => by rw [keys_real, ← Spec.key_real])
  unfold ratio Spec.attend Spec.sigma
  rw [hm, hm, htt]
  refine congrArg₂ (· * ·) ?_ ?_
  · refine Finset.sum_congr rfl fun j _ => ?_
    rw [values_apply, dif_pos (by simp only []; omega), cols0_apply]
    congr 1
    unfold Spec.row
    congr 1
    apply Fin.ext
    simp only [HostValues.wrow]
    rw [if_neg (by omega), if_neg (by omega)]
    omega
  · refine congrArg _ (Finset.sum_congr rfl fun j _ => ?_)
    rw [values_apply, dif_neg (show ¬ ((64 : Fin 72) : ℕ) < 64 from (by decide : ¬ 64 < 64)), one_mul]
    rfl

/-- An element of the first region's result is the head's output. -/
theorem headsAt_eq (ht : ∀ h, ∃ t : ℝ, temp m c (ix1 h) = (t : EReal)) (b : Fin 2) (d : Fin 1024) (i : Fin 2048) :
    headsAt (V1 m ρ) c b d i =
      Spec.attend (inp m c) (pos m c) (wqkv m c) (temp m c) b ⟨d / 64, by omega⟩ i ⟨d % 64, by omega⟩ := by
  have e2 : (⟨d / 64, by omega⟩ : Fin 16) = hd ⟨d / 128, by omega⟩ ⟨(d % 128) / 64, by omega⟩ := Fin.ext (by simp only []; omega)
  have e3 : (⟨d % 64, by omega⟩ : Fin 64) = ⟨(d % 128) % 64, by omega⟩ := Fin.ext (by simp only []; omega)
  rw [e2, e3]
  unfold headsAt
  rw [outsAt0_eq, tiles_apply]
  exact entry_eq m ρ c ht b _ _ i _

/-- The kernel's result is the specified function of its arguments, when every temperature is finite. -/
theorem result_eq (ht : ∀ h, ∃ t : ℝ, temp m c (ix1 h) = (t : EReal)) :
    Launch.result m ρ c = Spec.out (inp m c) (pos m c) (wqkv m c) (wout m c) (temp m c) := by
  funext y
  obtain ⟨b, i, o, rfl⟩ : ∃ (b : Fin 2) (i : Fin 2048) (o : Fin 1024), y = ix3 b i o := ⟨_, _, _, eq_ix3 y⟩
  unfold Launch.result
  rw [product_apply, Spec.out_apply]
  refine Finset.sum_congr rfl fun d _ => ?_
  rw [← headsAt_eq m ρ c ht b d i]
  exact congrArg _ (HostValues.wo_at m ρ c d o)

end Cert.KernelIdeal.Heads
-- ==== Proof.Rows.lean ====
module
public import proofs.«01_k».proof.Proof.Gen.ReferenceIdeal.Run
public import proofs.«01_k».proof.Proof.Spec
public import Idealize.ShloMosaic.Lib.Pointwise
public import Idealize.ShloMosaic.Lib.WordCmp

/-! # The rows the reference computes -/

@[expose] public section
noncomputable section

namespace Cert.ReferenceIdeal.Result

open Cert.ReferenceIdeal Cert.ReferenceIdeal.Gen Cert.ReferenceIdeal.Value Cert.Attend
open Idealize.ShloMosaic Idealize.ShloMosaic.TcCoe Idealize.ShloMosaic.Pointwise

variable (V : Valuation τ sig (Elt Ideal))

/-- The inputs. -/
abbrev inp : S2x2048x1024.Idx → EReal := V (Proc.devRef .tc main_arg0)
/-- The positions. -/
abbrev pos : S2048.Idx → BitVec 32 := V (Proc.devRef .tc main_arg1)
/-- The projection weights. -/
abbrev wqkv : S3072x1024.Idx → EReal := V (Proc.devRef .tc main_arg2)
/-- The output weights. -/
abbrev wout : S1024x1024.Idx → EReal := V (Proc.devRef .tc main_arg3)
/-- The temperatures. -/
abbrev temp : S16.Idx → EReal := V (Proc.devRef .tc main_arg4)

theorem v0_at (b : Fin 2) (i : Fin 2048) (o : Fin 3072) :
    (res_main_v0 V : S2x2048x3072.Idx → EReal) (ix3 b i o) = Spec.proj (inp V) (wqkv V) b i o := by
  unfold res_main_v0 Spec.proj
  pointwise

theorem v5_at (b : Fin 2) (h : Fin 16) (i : Fin 2048) (e : Fin 64) :
    (res_main_v5 V : S2x16x2048x64.Idx → EReal) (ix4 b h i e) = Spec.row (inp V) (wqkv V) 0 (by omega) b i h e := by
  unfold res_main_v5 Spec.row
  pointwise [v0_at]
  congr 1
  exact Fin.ext (by simp only []; omega)

theorem v7_at (b : Fin 2) (h : Fin 16) (i : Fin 2048) (e : Fin 64) :
    (res_main_v7 V : S2x16x2048x64.Idx → EReal) (ix4 b h i e) = Spec.row (inp V) (wqkv V) 1024 (by omega) b i h e := by
  unfold res_main_v7 Spec.row
  pointwise [v0_at]
  congr 1
  exact Fin.ext (by simp only []; omega)

theorem v25_at (i : Fin 2048) (f : Fin 32) :
    (res_main_v25 V : S2048x32.Idx → EReal) (ix2 i f) = Spec.theta (pos V (ix1 i)) f := by
  unfold res_main_v25 Spec.theta
  pointwise

theorem v63_at (i : Fin 2048) (f : Fin 32) :
    (res_main_v63 V : S2048x32.Idx → EReal) (ix2 i f) = Spec.theta (pos V (ix1 i)) f := v25_at V i f

theorem v26_at (i : Fin 2048) (f : Fin 32) :
    (res_main_v26 V : S2048x32.Idx → EReal) (ix2 i f) = Ideal.sin (Spec.theta (pos V (ix1 i)) f) := by
  unfold res_main_v26
  pointwise [v25_at]

theorem v27_at (i : Fin 2048) (f : Fin 32) :
    (res_main_v27 V : S2048x32.Idx → EReal) (ix2 i f) = Ideal.cos (Spec.theta (pos V (ix1 i)) f) := by
  unfold res_main_v27
  pointwise [v25_at]

theorem v64_at (i : Fin 2048) (f : Fin 32) :
    (res_main_v64 V : S2048x32.Idx → EReal) (ix2 i f) = Ideal.sin (Spec.theta (pos V (ix1 i)) f) := v26_at V i f

theorem v65_at (i : Fin 2048) (f : Fin 32) :
    (res_main_v65 V : S2048x32.Idx → EReal) (ix2 i f) = Ideal.cos (Spec.theta (pos V (ix1 i)) f) := v27_at V i f

theorem v28_at (b : Fin 2) (h : Fin 16) (i : Fin 2048) (f : Fin 32) :
    (res_main_v28 V : S2x16x2048x32.Idx → EReal) (ix4 b h i f) = Spec.row (inp V) (wqkv V) 0 (by omega) b i h ⟨2 * f, by omega⟩ := by
  unfold res_main_v28
  pointwise [v5_at]

theorem v29_at (b : Fin 2) (h : Fin 16) (i : Fin 2048) (f : Fin 32) :
    (res_main_v29 V : S2x16x2048x32.Idx → EReal) (ix4 b h i f) = Spec.row (inp V) (wqkv V) 0 (by omega) b i h ⟨2 * f + 1, by omega⟩ := by
  unfold res_main_v29
  pointwise [v5_at]
  congr 1
  exact Fin.ext (by simp only []; omega)

theorem v66_at (b : Fin 2) (h : Fin 16) (i : Fin 2048) (f : Fin 32) :
    (res_main_v66 V : S2x16x2048x32.Idx → EReal) (ix4 b h i f) = Spec.row (inp V) (wqkv V) 1024 (by omega) b i h ⟨2 * f, by omega⟩ := by
  unfold res_main_v66
  pointwise [v7_at]

theorem v67_at (b : Fin 2) (h : Fin 16) (i : Fin 2048) (f : Fin 32) :
    (res_main_v67 V : S2x16x2048x32.Idx → EReal) (ix4 b h i f) = Spec.row (inp V) (wqkv V) 1024 (by omega) b i h ⟨2 * f + 1, by omega⟩ := by
  unfold res_main_v67
  pointwise [v7_at]
  congr 1
  exact Fin.ext (by simp only []; omega)

/-- The rotated queries. -/
theorem v47_at (b : Fin 2) (h : Fin 16) (i : Fin 2048) (e : Fin 64) :
    (res_main_v47 V : S2x16x2048x64.Idx → EReal) (ix4 b h i e) = Spec.turn (inp V) (pos V) (wqkv V) 0 (by omega) b i h e := by
  unfold res_main_v47 Spec.turn rot
  pointwise [v28_at, v29_at, v26_at, v27_at]
  by_cases he : (e : ℕ) % 2 = 0
  · rw [dif_pos (by omega), if_pos he]
  · rw [dif_neg (by omega), if_neg he]

/-- The rotated keys. -/
theorem v85_at (b : Fin 2) (h : Fin 16) (i : Fin 2048) (e : Fin 64) :
    (res_main_v85 V : S2x16x2048x64.Idx → EReal) (ix4 b h i e) = Spec.turn (inp V) (pos V) (wqkv V) 1024 (by omega) b i h e := by
  unfold res_main_v85 Spec.turn rot
  pointwise [v66_at, v67_at, v64_at, v65_at]
  by_cases he : (e : ℕ) % 2 = 0
  · rw [dif_pos (by omega), if_pos he]
  · rw [dif_neg (by omega), if_neg he]

end Cert.ReferenceIdeal.Result
-- ==== Proof.Greatest.lean ====
module
public import proofs.«01_k».proof.Proof.Gen.ReferenceIdeal.Run
public import proofs.«01_k».proof.Proof.Spec
public import Idealize.ShloMosaic.Lib.Pointwise
public import Idealize.ShloMosaic.Lib.WordCmp

/-! # The reference's exponentials below a row's greatest -/

@[expose] public section
noncomputable section

namespace Cert.ReferenceIdeal.Result

open Cert.ReferenceIdeal Cert.ReferenceIdeal.Gen Cert.ReferenceIdeal.Value Cert.Attend
open Idealize.ShloMosaic Idealize.ShloMosaic.TcCoe Idealize.ShloMosaic.Pointwise

/-- The pattern of the least float. -/
theorem ninf : Ideal.ofBits .f32 0xFF800000#32 = ⊥ := by
  simp [Ideal.ofBits, Ideal.ieee]

/-- The causal mask as a choice. -/
theorem causal (i k : Fin 2048) (a : EReal) :
    Scalar.select (Scalar.select (IntOp.cmpi .sge (IntOp.addi (BitVec.ofNat 32 i) 0#32) (BitVec.ofNat 32 k)) 1#1 0#1)
      a (Ideal.ofBits .f32 0xFF800000#32) = if (k : ℕ) ≤ i then a else ⊥ := by
  rw [show IntOp.addi (BitVec.ofNat 32 i) 0#32 = BitVec.ofNat 32 i from BitVec.add_zero _,
    WordCmp.cmpi_sge_ofNat (by omega) (by omega), ninf]
  by_cases hk : (k : ℕ) ≤ i <;> simp [Scalar.select, hk]

/-- A row's greatest element. -/
theorem max_last (u : S2x16x2048x2048.Idx → EReal) (hr : S2x16x2048x2048.ReducesTo [3] S2x16x2048) (n : EReal)
    (b : Fin 2) (h : Fin 16) (i : Fin 2048) :
    Finset.fold max n u (Finset.univ.filter fun y => hr.drop y = ix3 b h i) =
      Finset.univ.fold max n (fun k : Fin 2048 => u (ix4 b h i k)) := by
  rw [hr.fold_fiber_r4_a3]
  rfl

/-- A row's greatest element, as the program's reduction finds it. -/
theorem reduce_at (u : FVec Ideal S2x16x2048x2048 .f32) (a : FVec Ideal S_ .f32) (hr : S2x16x2048x2048.ReducesTo [3] S2x16x2048) (hs : 0 < S_.numel)
    (b : Fin 2) (h : Fin 16) (i : Fin 2048) (ha : a (Shape.Idx.first hs) = ⊥) :
    Host.reduce FloatOps.maximumf u a hr hs (ix3 b h i) = Finset.univ.fold max ⊥ (fun k : Fin 2048 => u (ix4 b h i k)) := by
  rw [← ha]
  exact (Host.reduce_eq_fold _ _ _ _ _ _).trans (max_last u hr _ b h i)

/-- The exponentials of elements below a bound per row, as the program writes them. -/
def below (u : FVec Ideal S2x16x2048x2048 .f32) (g : FVec Ideal S2x16x2048 .f32) : FVec Ideal S2x16x2048x2048 .f32 :=
  Host.exp (subf u (broadcastInDim S2x16x2048x2048 ![0, 1, 2, 3] bcast_S2x16x2048x1_S2x16x2048x2048_0_1_2_3
    (broadcastInDim S2x16x2048x1 ![0, 1, 2] bcast_S2x16x2048_S2x16x2048x1_0_1_2
      (maximumf (broadcastInDim S2x16x2048 ![] bcast_S_S2x16x2048 (constant S_ .f32 0xFF800000#32)) g))))

theorem below_at (u : FVec Ideal S2x16x2048x2048 .f32) (g : FVec Ideal S2x16x2048 .f32) (b : Fin 2) (h : Fin 16) (i k : Fin 2048) :
    below u g (ix4 b h i k) = Ideal.exp (u (ix4 b h i k) - max ⊥ (g (ix3 b h i))) := by
  unfold below
  pointwise
  rw [ninf]

/-- The greatest element of each row. -/
def greatest (u : FVec Ideal S2x16x2048x2048 .f32) : FVec Ideal S2x16x2048 .f32 :=
  Host.reduce FloatOps.maximumf u (constant S_ .f32 0xFF800000#32) reducesTo_S2x16x2048x2048_S2x16x2048_d3 h_S_

theorem greatest_at (u : FVec Ideal S2x16x2048x2048 .f32) (b : Fin 2) (h : Fin 16) (i : Fin 2048) :
    greatest u (ix3 b h i) = Finset.univ.fold max ⊥ (fun k : Fin 2048 => u (ix4 b h i k)) :=
  reduce_at u _ _ _ b h i ninf

end Cert.ReferenceIdeal.Result
-- ==== Proof.Joined.lean ====
module
public import proofs.«01_k».proof.Proof.Gen.ReferenceIdeal.Run
public import proofs.«01_k».proof.Proof.Greatest
public import Idealize.ShloMosaic.Lib.Pointwise
public import Idealize.ShloMosaic.Lib.WordCmp

/-! # The reference's scores, weighted sums and last projection -/

@[expose] public section
noncomputable section

namespace Cert.ReferenceIdeal.Result

open Cert.ReferenceIdeal Cert.ReferenceIdeal.Gen Cert.ReferenceIdeal.Value Cert.Attend
open Idealize.ShloMosaic Idealize.ShloMosaic.TcCoe Idealize.ShloMosaic.Pointwise

/-- A row divided by its norm, as the program writes it. -/
def normed (q : FVec Ideal S2x16x2048x64 .f32) : FVec Ideal S2x16x2048x64 .f32 :=
  Host.divf q (broadcastInDim S2x16x2048x64 ![0, 1, 2, 3] bcast_S2x16x2048x1_S2x16x2048x64_0_1_2_3
    (addf (Host.sqrt (broadcastInDim S2x16x2048x1 ![0, 1, 2] bcast_S2x16x2048_S2x16x2048x1_0_1_2
      (Host.reduceAdd (mulf q q) (constant S_ .f32 0x00000000#32) reducesTo_S2x16x2048x64_S2x16x2048_d3 h_S_)))
      (broadcastInDim S2x16x2048x1 ![] bcast_S_S2x16x2048x1 (constant S_ .f32 0x322BCC77#32))))

theorem normed_at (q : FVec Ideal S2x16x2048x64 .f32) (b : Fin 2) (h : Fin 16) (i : Fin 2048) (e : Fin 64) :
    normed q (ix4 b h i e) = hat (fun e => q (ix4 b h i e)) e := by
  unfold normed hat
  pointwise

/-- The scores, as the program writes them. -/
def scores (q k : FVec Ideal S2x16x2048x64 .f32) (t : FVec Ideal S16 .f32) : FVec Ideal S2x16x2048x2048 .f32 :=
  Host.dotGeneral dot_S2x16x2048x64_S2x16x2048x64_S2x16x2048x2048_3_3_2_2_01_01 none
    (mulf q (broadcastInDim S2x16x2048x64 ![0, 1, 2, 3] bcast_S1x16x1x1_S2x16x2048x64_0_1_2_3 (shapeCast _ t shapeCasts_S16_S1x16x1x1))) k

theorem scores_at (q k : FVec Ideal S2x16x2048x64 .f32) (t : FVec Ideal S16 .f32) (b : Fin 2) (h : Fin 16) (i j : Fin 2048) :
    scores q k t (ix4 b h i j) = ∑ e : Fin 64, q (ix4 b h i e) * t (ix1 h) * k (ix4 b h j e) := by
  unfold scores
  pointwise

/-- The masked scores, as the program writes them. -/
def hidden (s : FVec Ideal S2x16x2048x2048 .f32) : FVec Ideal S2x16x2048x2048 .f32 :=
  select (broadcastInDim S2x16x2048x2048 ![2, 3] bcast_S2048x2048_S2x16x2048x2048_2_3
    (select (cmpi .sge (addi (iotaInDim S2048x2048 32 0) (broadcastInDim S2048x2048 ![] bcast_S_S2048x2048 (constantI S_ 32 0#32)))
      (iotaInDim S2048x2048 32 1)) (broadcastInDim S2048x2048 ![] bcast_S_S2048x2048 (constantI S_ 1 1#1))
      (broadcastInDim S2048x2048 ![] bcast_S_S2048x2048 (constantI S_ 1 0#1)))) s
    (broadcastInDim S2x16x2048x2048 ![] bcast_S_S2x16x2048x2048 (id (constant S_ .f32 0xFF800000#32)))

theorem hidden_at (s : FVec Ideal S2x16x2048x2048 .f32) (b : Fin 2) (h : Fin 16) (i k : Fin 2048) :
    hidden s (ix4 b h i k) = if (k : ℕ) ≤ i then s (ix4 b h i k) else ⊥ := by
  unfold hidden
  pointwise
  exact causal i k _

/-- The heads' outputs, as the program writes them. -/
def attended (u : FVec Ideal S2x16x2048x2048 .f32) (v : FVec Ideal S2x2048x3072 .f32) : FVec Ideal S2x16x2048x64 .f32 :=
  Host.dotGeneral dot_S2x16x2048x2048_S2x16x2048x64_S2x16x2048x64_3_2_2_3_01_01 none
    (Host.divf u (broadcastInDim S2x16x2048x2048 ![0, 1, 2, 3] bcast_S2x16x2048x1_S2x16x2048x2048_0_1_2_3
      (broadcastInDim S2x16x2048x1 ![0, 1, 2] bcast_S2x16x2048_S2x16x2048x1_0_1_2
        (Host.reduceAdd u (constant S_ .f32 0x00000000#32) reducesTo_S2x16x2048x2048_S2x16x2048_d3 h_S_))))
    (transpose S2x16x2048x64 [0, 2, 1, 3] (shapeCast _ (extractStridedSlice S2x2048x1024 ![0, 0, 2048] v
      slices_S2x2048x3072_S2x2048x1024_0_0_2048) shapeCasts_S2x2048x1024_S2x2048x16x64) transposes_S2x2048x16x64_S2x16x2048x64_0_2_1_3)

theorem attended_at (u : FVec Ideal S2x16x2048x2048 .f32) (v : FVec Ideal S2x2048x3072 .f32) (b : Fin 2) (h : Fin 16) (i : Fin 2048)
    (e : Fin 64) : attended u v (ix4 b h i e) =
      ∑ k : Fin 2048, Ideal.div (u (ix4 b h i k)) (∑ l : Fin 2048, u (ix4 b h i l)) * v (ix3 b k ⟨2048 + (64 * h + e), by omega⟩) := by
  unfold attended
  pointwise
  refine Finset.sum_congr rfl fun k _ => ?_
  congr 3
  exact Fin.ext (by simp only []; omega)

/-- The result from the heads' outputs, as the program writes it. -/
def joined (a : FVec Ideal S2x16x2048x64 .f32) (w : FVec Ideal S1024x1024 .f32) : FVec Ideal S2x2048x1024 .f32 :=
  Host.dotGeneral dot_S2x2048x1024_S1024x1024_S2x2048x1024_2_1_01_0_n_n none
    (shapeCast _ (transpose S2x2048x16x64 [0, 2, 1, 3] a transposes_S2x16x2048x64_S2x2048x16x64_0_2_1_3)
      shapeCasts_S2x2048x16x64_S2x2048x1024) w

theorem joined_at (a : FVec Ideal S2x16x2048x64 .f32) (w : FVec Ideal S1024x1024 .f32) (b : Fin 2) (i : Fin 2048) (o : Fin 1024) :
    joined a w (ix3 b i o) = ∑ d : Fin 1024, a (ix4 b ⟨d / 64, by omega⟩ i ⟨d % 64, by omega⟩) * w (ix2 o d) := by
  unfold joined
  pointwise

end Cert.ReferenceIdeal.Result
-- ==== Proof.Reference.lean ====
module
public import proofs.«01_k».proof.Proof.Gen.ReferenceIdeal.Run
public import proofs.«01_k».proof.Proof.Rows
public import proofs.«01_k».proof.Proof.Greatest
public import proofs.«01_k».proof.Proof.Joined
public import Idealize.ShloMosaic.Lib.Pointwise
public import Idealize.ShloMosaic.Lib.WordCmp

/-! # The reference's result is the specified function -/

@[expose] public section
noncomputable section

namespace Cert.ReferenceIdeal.Result

open Cert.ReferenceIdeal Cert.ReferenceIdeal.Gen Cert.ReferenceIdeal.Value Cert.Attend
open Idealize.ShloMosaic Idealize.ShloMosaic.TcCoe Idealize.ShloMosaic.Pointwise

variable (V : Valuation τ sig (Elt Ideal))

variable (ht : ∀ h, ∃ t : ℝ, temp V (ix1 h) = (t : EReal))

/-- The masked scores of a row. -/
abbrev row (b : Fin 2) (h : Fin 16) (i : Fin 2048) : Fin 2048 → EReal :=
  masked (Spec.sigma (inp V) (pos V) (wqkv V) (temp V) b h i) i

theorem v108_eq : (res_main_v108 V : S2x16x2048x2048.Idx → EReal) =
    hidden (scores (normed (res_main_v47 V)) (normed (res_main_v85 V)) (temp V)) := by
  unfold res_main_v108 hidden scores normed
  rfl

theorem v115_eq : (res_main_v115 V : S2x16x2048x2048.Idx → EReal) = below (res_main_v108 V) (greatest (res_main_v108 V)) := by
  unfold res_main_v115 below greatest
  rfl

include ht in
/-- The masked scores. -/
theorem v108_at (b : Fin 2) (h : Fin 16) (i k : Fin 2048) :
    (res_main_v108 V : S2x16x2048x2048.Idx → EReal) (ix4 b h i k) = row V b h i k := by
  obtain ⟨t, e⟩ := ht h
  have hs : scores (normed (res_main_v47 V)) (normed (res_main_v85 V)) (temp V) (ix4 b h i k) =
      ((Spec.sigma (inp V) (pos V) (wqkv V) (temp V) b h i k : ℝ) : EReal) := by
    rw [scores_at]
    unfold Spec.sigma
    rw [← score_ref]
    refine Finset.sum_congr rfl fun x _ => ?_
    rw [← Spec.query_real, ← Spec.key_real, e, EReal.toReal_coe, normed_at, normed_at]
    simp only [v47_at, v85_at]
    rfl
  rw [v108_eq, hidden_at, hs]
  rfl

include ht in
/-- The exponentials of the scores below their row's greatest. -/
theorem v115_at (b : Fin 2) (h : Fin 16) (i k : Fin 2048) :
    (res_main_v115 V : S2x16x2048x2048.Idx → EReal) (ix4 b h i k) =
      Ideal.exp (row V b h i k - max ⊥ (Finset.univ.fold max ⊥ (row V b h i))) := by
  rw [v115_eq, below_at, greatest_at]
  simp only [v108_at V ht]

include ht in
/-- A head's output. -/
theorem attend_at (b : Fin 2) (h : Fin 16) (i : Fin 2048) (e : Fin 64) :
    attended (res_main_v115 V) (res_main_v0 V) (ix4 b h i e) = Spec.attend (inp V) (pos V) (wqkv V) (temp V) b h i e := by
  rw [attended_at]
  simp only [v115_at V ht, v0_at]
  exact softmax_row _ i _ _ rfl

/-- The reference's result, as the program writes it. -/
def output : S2x2048x1024.Idx → EReal := joined (attended (res_main_v115 V) (res_main_v0 V)) (wout V)

include ht in
/-- The reference's result is the specified function of its arguments, when every temperature is finite. -/
theorem result_eq : output V =
    Spec.out (inp V) (pos V) (wqkv V) (wout V) (temp V) := by
  funext y
  obtain ⟨b, i, o, rfl⟩ : ∃ (b : Fin 2) (i : Fin 2048) (o : Fin 1024), y = ix3 b i o := ⟨_, _, _, eq_ix3 y⟩
  unfold output
  rw [joined_at, Spec.out_apply]
  simp only [attend_at V ht]

end Cert.ReferenceIdeal.Result
-- ==== Proof.Finite.lean ====
module
public import proofs.«01_k».proof.Pre_finite_temperatures
public import Idealize.ShloMosaic.Lib.Pointwise
public import Idealize.ShloMosaic.Lib.ReduceAll

/-! # What the precondition says of the temperatures -/

@[expose] public section
noncomputable section

namespace Cert.Finite

open Cert.Pre_finite_temperatures
open Idealize.ShloMosaic Idealize.ShloMosaic.Pointwise

/-- The pattern of the greatest float. -/
theorem inf : Ideal.ofBits .f32 0x7F800000#32 = ⊤ := by simp [Ideal.ofBits, Ideal.ieee]

/-- An extended real whose absolute value is below the greatest is a real. -/
theorem real_of_abs (x : EReal) (h : max x (-x) < ⊤) : ∃ a : ℝ, x = (a : EReal) := by
  induction x using EReal.rec with
  | bot => simp at h
  | top => simp at h
  | coe a => exact ⟨a, rfl⟩

/-- Where the precondition holds, every temperature is a real. -/
theorem temperatures [Facts] (x : FVec Ideal S2x2048x1024 .f32) (p : IVec S2048 32) (w : FVec Ideal S3072x1024 .f32)
    (wo : FVec Ideal S1024x1024 .f32) (t : FVec Ideal S16 .f32) (j : S_.Idx)
    (hp : fn (F := Ideal) x p w wo t j = 1#1) (h : Fin 16) : ∃ a : ℝ, t (ix1 h) = (a : EReal) := by
  haveI : Subsingleton S_.Idx := ⟨fun a b => funext fun i => i.elim0⟩
  have hc : cmpf (F := Ideal) .olt (Host.absf t) (broadcastInDim S16 ![] Facts.bcast_S_S16 (constant S_ .f32 0x7F800000#32)) (ix1 h) = 1#1 :=
    Host.reduce_andi_all _ _ _ _ j hp (ix1 h)
  have hb : (Ideal.cmp .olt (max (t (ix1 h)) (-(t (ix1 h)))) (Ideal.ofBits .f32 0x7F800000#32)) = 1#1 := by
    refine Eq.trans ?_ hc
    pointwise
    rfl
  rw [inf] at hb
  refine real_of_abs _ (by_contra fun hn => ?_)
  simp [Ideal.cmp, hn] at hb

end Cert.Finite
-- ==== Proof.lean ====
/- The certificate: the frames of the kernel at both instances and of the reference, the idealisation of the named
   constant, and the equality of the two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Heads
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.Pointwise Idealize.ShloMosaic.StableHlo Idealize.SL.Sem

/-- The reference runs on host operations only and declares no semaphore: its arguments end unchanged, every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩) (Cert.ReferenceIdeal.Value.run m g)

/-- From memories agreeing on the arguments, the temperatures finite, the reference's result is the kernel's. -/
theorem results_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (ht : ∀ h, ∃ t : ℝ, Cert.KernelIdeal.Heads.temp m c (ix1 h) = (t : EReal))
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Result.output (launchContents m' c) = Cert.KernelIdeal.Launch.result m g c := by
  obtain ⟨h0, h1, h2, h3, h4⟩ := ha
  have e0 : Cert.ReferenceIdeal.Result.inp (launchContents m' c) = Cert.KernelIdeal.Heads.inp m c := h0
  have e1 : Cert.ReferenceIdeal.Result.pos (launchContents m' c) = Cert.KernelIdeal.Heads.pos m c := h1
  have e2 : Cert.ReferenceIdeal.Result.wqkv (launchContents m' c) = Cert.KernelIdeal.Heads.wqkv m c := h2
  have e3 : Cert.ReferenceIdeal.Result.wout (launchContents m' c) = Cert.KernelIdeal.Heads.wout m c := h3
  have e4 : Cert.ReferenceIdeal.Result.temp (launchContents m' c) = Cert.KernelIdeal.Heads.temp m c := h4
  rw [Cert.KernelIdeal.Heads.result_eq m g c ht, Cert.ReferenceIdeal.Result.result_eq (launchContents m' c) (by rw [e4]; exact ht),
    e0, e1, e2, e3, e4]

/-- The side conditions of the precondition's operations. -/
theorem finite_facts : Cert.Pre_finite_temperatures.Facts :=
  { bcast_S_S16 := by decide, reducesTo_S16_S_d0 := by decide, h_S_ := by decide }

/-- Everything the certificate claims. -/
theorem claim : Cert.Claim := ⟨Cert.Kernel.Gen.facts, Cert.KernelIdeal.Gen.facts, Cert.ReferenceIdeal.Gen.facts,
  finite_facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  IdealRules.named_const.statement Cert.KernelIdeal.κ "log2e" .f32 0x3FB8AA3B#32 _ rfl,
  fun m g m' g' hp ha => ⟨fun c => Cert.KernelIdeal.Launch.result m g c, Cert.KernelIdeal.Launch.run m g,
    (θ_run _ _ _).mono (fun _ h c => ⟨(h c).1.trans (results_eq m g m' c (fun k => @Cert.Finite.temperatures finite_facts _ _ _ _ _ (fun i => i.elim0)
      (congrFun (hp c) _) k) (ha c)), (h c).2⟩) (Cert.ReferenceIdeal.Value.run m' g')⟩⟩

end Cert.Proof

end
